-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tables [hPre_finite_tables : Cert.Pre_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tables [hPre_finite_tables : Cert.Pre_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_tables [hKernelIdeal : Cert.KernelIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_tables [hReferenceIdeal : Cert.ReferenceIdeal.Facts] [hPre_finite_tables : Cert.Pre_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_tables [hKernelIdeal : Cert.KernelIdeal.Facts] [hReferenceIdeal : Cert.ReferenceIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_tables : Cert.Pre_finite_tables.Facts),
    quiescent_Kernel (hKernel := hKernel)
    ∧ quiescent_KernelIdeal (hKernelIdeal := hKernelIdeal)
    ∧ quiescent_KernelIdeal_pre_finite_tables (hKernelIdeal := hKernelIdeal) (hPre_finite_tables := hPre_finite_tables)
    ∧ quiescent_ReferenceIdeal (hReferenceIdeal := hReferenceIdeal)
    ∧ quiescent_ReferenceIdeal_pre_finite_tables (hReferenceIdeal := hReferenceIdeal) (hPre_finite_tables := hPre_finite_tables)
    ∧ preserves_Kernel_KernelIdeal
    ∧ algebraic_KernelIdeal_ReferenceIdeal_pre_finite_tables (hKernelIdeal := hKernelIdeal) (hReferenceIdeal := hReferenceIdeal) (hPre_finite_tables := hPre_finite_tables)
-- ==== Pre_finite_tables.lean ====
abbrev S200000x26 : Shape := ⟨2, ![200000, 26]⟩
abbrev S256 : Shape := ⟨1, ![256]⟩
abbrev S256x16 : Shape := ⟨2, ![256, 16]⟩
abbrev S16x16 : Shape := ⟨2, ![16, 16]⟩
abbrev S16 : Shape := ⟨1, ![16]⟩
abbrev S_ : Shape := ⟨0, ![]⟩

class Facts : Prop where
  bcast_S_S256x16 : S_.BroadcastsInDim S256x16 (![] : Fin 0 → Fin S256x16.rank)
  reducesTo_S256x16_S_d0_1 : S256x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_

variable [Facts]

def fn {F : FTy → Type} [FloatOps F] (main_arg0 : FVec F S200000x26 .f32) (main_arg1 : FVec F S256 .f32) (main_arg2 : FVec F S256x16 .f32) (main_arg3 : FVec F S16x16 .f32) (main_arg4 : FVec F S16 .f32) : IVec S_ 1 :=
  let main_v0 : FVec F S256x16 .f32 := Host.absf main_arg2
  let main_cst : FVec F S_ .f32 := constant S_ .f32 0x7F800000#32
  let main_v1 : FVec F S256x16 .f32 := broadcastInDim S256x16 ![] bcast_S_S256x16 main_cst
  let main_v2 : IVec S256x16 1 := cmpf .olt main_v0 main_v1
  let main_c : IVec S_ 1 := constantI S_ 1 1#1
  let main_v3 : IVec S_ 1 := (fun x v => Host.reduce IntOp.andi x v reducesTo_S256x16_S_d0_1 h_S_) main_v2 main_c
  let main_v4 : FVec F S16x16 .f32 := Host.absf main_arg3
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  main_v8
-- ==== Kernel.lean ====
abbrev S200000x26 : Shape := ⟨2, ![200000, 26]⟩
abbrev S256 : Shape := ⟨1, ![256]⟩
abbrev S256x16 : Shape := ⟨2, ![256, 16]⟩
abbrev S16x16 : Shape := ⟨2, ![16, 16]⟩
abbrev S16 : Shape := ⟨1, ![16]⟩
abbrev S_ : Shape := ⟨0, ![]⟩
abbrev S1 : Shape := ⟨1, ![1]⟩
abbrev S1x256 : Shape := ⟨2, ![1, 256]⟩
abbrev S255x16 : Shape := ⟨2, ![255, 16]⟩
abbrev S1x16 : Shape := ⟨2, ![1, 16]⟩
abbrev S1x26 : Shape := ⟨2, ![1, 26]⟩
abbrev S2000x26 : Shape := ⟨2, ![2000, 26]⟩
abbrev S26 : Shape := ⟨1, ![26]⟩
abbrev S200000x16 : Shape := ⟨2, ![200000, 16]⟩
abbrev S1000x26 : Shape := ⟨2, ![1000, 26]⟩
abbrev S1000x16 : Shape := ⟨2, ![1000, 16]⟩
abbrev S1000x1 : Shape := ⟨2, ![1000, 1]⟩
abbrev S1000x256 : Shape := ⟨2, ![1000, 256]⟩

abbrev nBuf : Space → Nat
  | .hbm => 40
  | .vmem => 15
  | .smem => 0
  | _ => 0

abbrev bufTy : (tb : Table) → Fin (tcTables nBuf tb) → BufTy
  | .hbm, ⟨0, _⟩ => ⟨S200000x26, .f32⟩
  | .hbm, ⟨1, _⟩ => ⟨S256, .f32⟩
  | .hbm, ⟨2, _⟩ => ⟨S256x16, .f32⟩
  | .hbm, ⟨3, _⟩ => ⟨S16x16, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S_, .f32⟩
  | .hbm, ⟨20, _⟩ => ⟨S256, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S256, .f32⟩
  | .hbm, ⟨25, _⟩ => ⟨S1x256, .f32⟩
  | .hbm, ⟨26, _⟩ => ⟨S16x16, .f32⟩
  | .hbm, ⟨27, _⟩ => ⟨S256x16, .f32⟩
  | .hbm, ⟨28, _⟩ => ⟨S255x16, .f32⟩
  | .hbm, ⟨29, _⟩ => ⟨S255x16, .f32⟩
  | .hbm, ⟨30, _⟩ => ⟨S255x16, .f32⟩
  | .hbm, ⟨31, _⟩ => ⟨S1x16, .f32⟩
  | .hbm, ⟨32, _⟩ => ⟨S256x16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S1x16, .f32⟩
  | .hbm, ⟨37, _⟩ => ⟨S1x26, .f32⟩
  | .hbm, ⟨38, _⟩ => ⟨S1x26, .f32⟩
  | .hbm, ⟨39, _⟩ => ⟨S200000x16, .f32⟩
  | .local _ .vmem, ⟨0, _⟩ => ⟨S2000x26, .f32⟩
  | .local _ .vmem, ⟨1, _⟩ => ⟨S2000x26, .f32⟩
  | .local _ .vmem, ⟨2, _⟩ => ⟨S1x26, .f32⟩
  | .local _ .vmem, ⟨3, _⟩ => ⟨S1x26, .f32⟩
  | .local _ .vmem, ⟨4, _⟩ => ⟨S1x26, .f32⟩
  | .local _ .vmem, ⟨5, _⟩ => ⟨S1x26, .f32⟩
  | .local _ .vmem, ⟨6, _⟩ => ⟨S1000x26, .f32⟩
  | .local _ .vmem, ⟨7, _⟩ => ⟨S1000x26, .f32⟩
  | .local _ .vmem, ⟨8, _⟩ => ⟨S1x26, .f32⟩
  | .local _ .vmem, ⟨9, _⟩ => ⟨S1x26, .f32⟩
  | .local _ .vmem, ⟨10, _⟩ => ⟨S1x256, .f32⟩
  | .local _ .vmem, ⟨11, _⟩ => ⟨S256x16, .f32⟩
  | .local _ .vmem, ⟨12, _⟩ => ⟨S1x16, .f32⟩
  | .local _ .vmem, ⟨13, _⟩ => ⟨S1000x16, .f32⟩
  | .local _ .vmem, ⟨14, _⟩ => ⟨S1000x16, .f32⟩
  | _, _ => ⟨S200000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_call0_cst : Ref sig .tc := ⟨.hbm, 18, rfl⟩
abbrev main_call0_call0_v0 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12

abbrev nD : Nat := 1
abbrev τ : Topo := Topo.v7x

variable {F : FTy → Type} [FloatOps F]

abbrev grid0 : Pipeline.Grid := ⟨1, ![100], ![false]⟩

def k0_cond3 (i : grid0.Coords) : BitVec 1 :=
  let arg0 : BitVec 32 := BitVec.ofNat 32 (i 0).val
  let c99_i32 : BitVec 32 := 99#32
  let v12 : BitVec 1 := Scalar.cmpi .eq arg0 c99_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x26 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x26 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x26 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x26 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x26 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S200000x26 : Shape := ⟨2, ![200000, 26]⟩
abbrev S256 : Shape := ⟨1, ![256]⟩
abbrev S256x16 : Shape := ⟨2, ![256, 16]⟩
abbrev S16x16 : Shape := ⟨2, ![16, 16]⟩
abbrev S16 : Shape := ⟨1, ![16]⟩
abbrev S_ : Shape := ⟨0, ![]⟩
abbrev S26 : Shape := ⟨1, ![26]⟩
abbrev S1x26 : Shape := ⟨2, ![1, 26]⟩
abbrev S1 : Shape := ⟨1, ![1]⟩
abbrev S200000x26x1 : Shape := ⟨3, ![200000, 26, 1]⟩
abbrev S1x1x256 : Shape := ⟨3, ![1, 1, 256]⟩
abbrev S200000x26x256 : Shape := ⟨3, ![200000, 26, 256]⟩
abbrev S1x1x1 : Shape := ⟨3, ![1, 1, 1]⟩
abbrev S200000x26x16 : Shape := ⟨3, ![200000, 26, 16]⟩
abbrev S1x1x16 : Shape := ⟨3, ![1, 1, 16]⟩
abbrev S200000x16 : Shape := ⟨2, ![200000, 16]⟩

abbrev nBuf : Space → Nat
  | .hbm => 81
  | .vmem => 0
  | .smem => 0
  | _ => 0

abbrev bufTy : (tb : Table) → Fin (tcTables nBuf tb) → BufTy
  | .hbm, ⟨0, _⟩ => ⟨S200000x26, .f32⟩
  | .hbm, ⟨1, _⟩ => ⟨S256, .f32⟩
  | .hbm, ⟨2, _⟩ => ⟨S256x16, .f32⟩
  | .hbm, ⟨3, _⟩ => ⟨S16x16, .f32⟩
  | .hbm, ⟨4, _⟩ => ⟨S16, .f32⟩
  | .hbm, ⟨5, _⟩ => ⟨S_, .f32⟩
  | .hbm, ⟨6, _⟩ => ⟨S26, .f32⟩
  | .hbm, ⟨7, _⟩ => ⟨S_, .f32⟩
  | .hbm, ⟨8, _⟩ => ⟨S26, .f32⟩
  | .hbm, ⟨9, _⟩ => ⟨S1x26, .f32⟩
  | .hbm, ⟨10, _⟩ => ⟨S200000x26, .f32⟩
  | .hbm, ⟨11, _⟩ => ⟨S200000x26, .f32⟩
  | .hbm, ⟨12, _⟩ => ⟨S26, .f32⟩
  | .hbm, ⟨13, _⟩ => ⟨S_, .f32⟩
  | .hbm, ⟨14, _⟩ => ⟨S26, .f32⟩
  | .hbm, ⟨15, _⟩ => ⟨S26, .f32⟩
  | .hbm, ⟨16, _⟩ => ⟨S1x26, .f32⟩
  | .hbm, ⟨17, _⟩ => ⟨S200000x26, .f32⟩
  | .hbm, ⟨18, _⟩ => ⟨S200000x26, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S_, .f32⟩
  | .hbm, ⟨34, _⟩ => ⟨S256, .f32⟩
  | .hbm, ⟨35, _⟩ => ⟨S200000x26x1, .f32⟩
  | .hbm, ⟨36, _⟩ => ⟨S1x1x256, .f32⟩
  | .hbm, ⟨37, _⟩ => ⟨S200000x26x256, .f32⟩
  | .hbm, ⟨38, _⟩ => ⟨S200000x26x256, .f32⟩
  | .hbm, ⟨39, _⟩ => ⟨S200000x26x256, .i1⟩
  | .hbm, ⟨40, _⟩ => ⟨S200000x26x256, .i32⟩
  | .hbm, ⟨41, _⟩ => ⟨S_, .i32⟩
  | .hbm, ⟨42, _⟩ => ⟨S200000x26, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S200000x26, .i32⟩
  | .hbm, ⟨47, _⟩ => ⟨S200000x26, .i32⟩
  | .hbm, ⟨48, _⟩ => ⟨S_, .i32⟩
  | .hbm, ⟨49, _⟩ => ⟨S200000x26, .i32⟩
  | .hbm, ⟨50, _⟩ => ⟨S200000x26, .i32⟩
  | .hbm, ⟨51, _⟩ => ⟨S_, .i32⟩
  | .hbm, ⟨52, _⟩ => ⟨S200000x26, .i32⟩
  | .hbm, ⟨53, _⟩ => ⟨S200000x26, .i1⟩
  | .hbm, ⟨54, _⟩ => ⟨S_, .i32⟩
  | .hbm, ⟨55, _⟩ => ⟨S200000x26, .i32⟩
  | .hbm, ⟨56, _⟩ => ⟨S200000x26, .i32⟩
  | .hbm, ⟨57, _⟩ => ⟨S200000x26, .i32⟩
  | .hbm, ⟨58, _⟩ => ⟨S200000x26x1, .i32⟩
  | .hbm, ⟨59, _⟩ => ⟨S1, .i32⟩
  | .hbm, ⟨60, _⟩ => ⟨S_, .i32⟩
  | .hbm, ⟨61, _⟩ => ⟨S200000x26x1, .i32⟩
  | .hbm, ⟨62, _⟩ => ⟨S200000x26x1, .i1⟩
  | .hbm, ⟨63, _⟩ => ⟨S1x1x1, .i32⟩
  | .hbm, ⟨64, _⟩ => ⟨S200000x26x1, .i32⟩
  | .hbm, ⟨65, _⟩ => ⟨S200000x26x1, .i1⟩
  | .hbm, ⟨66, _⟩ => ⟨S200000x26x1, .i1⟩
  | .hbm, ⟨67, _⟩ => ⟨S_, .i1⟩
  | .hbm, ⟨68, _⟩ => ⟨S200000x26, .i1⟩
  | .hbm, ⟨69, _⟩ => ⟨S200000x26x16, .f32⟩
  | .hbm, ⟨70, _⟩ => ⟨S200000x26x16, .i1⟩
  | .hbm, ⟨71, _⟩ => ⟨S_, .f32⟩
  | .hbm, ⟨72, _⟩ => ⟨S200000x26x16, .f32⟩
  | .hbm, ⟨73, _⟩ => ⟨S200000x26x16, .f32⟩
  | .hbm, ⟨74, _⟩ => ⟨S16x16, .f32⟩
  | .hbm, ⟨75, _⟩ => ⟨S200000x26x16, .f32⟩
  | .hbm, ⟨76, _⟩ => ⟨S1x1x16, .f32⟩
  | .hbm, ⟨77, _⟩ => ⟨S200000x26x16, .f32⟩
  | .hbm, ⟨78, _⟩ => ⟨S200000x26x16, .f32⟩
  | .hbm, ⟨79, _⟩ => ⟨S_, .f32⟩
  | .hbm, ⟨80, _⟩ => ⟨S200000x16, .f32⟩
  | _, _ => ⟨S200000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_call0_cst : Ref sig .tc := ⟨.hbm, 32, rfl⟩
abbrev main_call0_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_c_5 : Ref sig .tc := ⟨.hbm, 43, rfl⟩
abbrev main_c_6 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v29 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_7 : Ref sig .tc := ⟨.hbm, 79, rfl⟩
abbrev main_v36 : Ref sig .tc := ⟨.hbm, 80, rfl⟩

abbrev nD : Nat := 1
abbrev τ : Topo := Topo.v7x

variable {F : FTy → Type} [FloatOps F]
-- ==== Proof.Ideal.MinMax.lean ====
/-
  The first region: the columns' running least and greatest values.

  The grid has one hundred points.  Point `t` reads rows `2000 t … 2000 t + 1999` of the input.  Two scratch rows
  carry the least and the greatest value of every column over the rows read so far; the last point copies them out.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branches a point takes -/

/-- The body's three tests, as the program evaluates them. -/
abbrev isFirst (i : grid0.Coords) : Prop := (Scalar.cmpi .ne (Scalar.extui (Scalar.cmpi .eq (BitVec.ofNat 32 (i 0).val) 0#32)) 0#32) = 1#1
abbrev isLater (i : grid0.Coords) : Prop := (Scalar.cmpi .ne (Scalar.extui (Scalar.cmpi .sgt (BitVec.ofNat 32 (i 0).val) 0#32)) 0#32) = 1#1
abbrev isLast (i : grid0.Coords) : Prop := (Scalar.cmpi .ne (Scalar.extui (Scalar.cmpi .eq (BitVec.ofNat 32 (i 0).val) 99#32)) 0#32) = 1#1

theorem isFirst_iff : ∀ t : Fin cfg0.N, isFirst (grid0.coords t) ↔ t.val = 0 := by decide +kernel
theorem isLater_iff : ∀ t : Fin cfg0.N, isLater (grid0.coords t) ↔ t.val ≠ 0 := by decide +kernel
theorem isLast_iff : ∀ t : Fin cfg0.N, isLast (grid0.coords t) ↔ t.val = 99 := by decide +kernel

/-- Before the last point the two result windows are left alone. -/
theorem idle1 : ∀ t : Fin cfg0.N, t.val ≠ 99 → cfg0.idle 1 (grid0.coords t) = true := by decide +kernel
theorem idle2 : ∀ t : Fin cfg0.N, t.val ≠ 99 → cfg0.idle 2 (grid0.coords t) = true := by decide +kernel
theorem noFlush1 : ∀ t : Fin cfg0.N, t.val ≠ 99 → (cfg0.win 1).flush t = false := by decide +kernel
theorem noFlush2 : ∀ t : Fin cfg0.N, t.val ≠ 99 → (cfg0.win 2).flush t = false := by decide +kernel
theorem live0 : ∀ t : Fin cfg0.N, cfg0.idle 0 (grid0.coords t) = false := fun _ => rfl
theorem live1 : ∀ t : Fin cfg0.N, t.val = 99 → cfg0.idle 1 (grid0.coords t) = false := by decide +kernel
theorem live2 : ∀ t : Fin cfg0.N, t.val = 99 → cfg0.idle 2 (grid0.coords t) = false := by decide +kernel

/-! ## The body, by the branches taken -/

/-- The access rectangles all start at the origin. -/
theorem zz : (![0, 0] : Fin 2 → ℕ) = fun _ => 0 := by funext a; fin_cases a <;> rfl

/-- One store over a whole 2-d buffer leaves its payload. -/
theorem read_one {S : Shape} {e : EltTy} (v : View sig .tc .vmem S e) {off : Fin S.rank → ℕ} (h : off = fun _ => 0)
    (f : v.ty.Contents (Elt F)) (inb : ∀ a, off a + S.size a ≤ S.size a) (w : S.Idx → Elt F e) :
    v.read (Elt F) (v.writes (Elt F) f [⟨Rect.unit off S.size inb, w⟩]) = w :=
  (View.read_writes_eq_canon _ _ _ fun y => ⟨_, List.mem_singleton_self _, View.mem_set_unit_zero h inb y⟩).trans (View.canon_unit_zero h inb w)

/-- A load of a whole buffer reads its contents. -/
theorem load_all {S : Shape} {e : EltTy} (a : Memref sig .tc .vmem S e) (ha : a.IsWhole) {off : Fin S.rank → ℕ} (h : off = fun _ => 0)
    (inb : ∀ a, off a + S.size a ≤ S.size a) (x : S.Idx → Elt F e) :
    a.view.readAt (Elt F) (Rect.unit off S.size inb).toLoadRect (ha.unread x) = x := by
  rw [View.readAt_eq_ld, ha.read_unread]
  exact View.ld_unit_zero h inb x

section Runs

variable (c : Dev nD) (i : grid0.Coords)
  (a1 : Memref sig .tc .vmem S2000x26 .f32) (h1 : a1.IsWhole) (a2 : Memref sig .tc .vmem S1x26 .f32) (h2 : a2.IsWhole)
  (a3 : Memref sig .tc .vmem S1x26 .f32) (h3 : a3.IsWhole) (a4 : Memref sig .tc .vmem S1x26 .f32) (h4 : a4.IsWhole)
  (a5 : Memref sig .tc .vmem S1x26 .f32) (h5 : a5.IsWhole)

set_option maxHeartbeats 1000000 in
/-- The first point: the scratch rows receive the block's least and greatest values; the results are untouched. -/
theorem run_first (hf : isFirst i) (hl : ¬ isLater i) (hz : ¬ isLast i) (x : Vec F S2000x26 .f32)
    (d1 d2 : Vec F S1x26 .f32) (E : Set ℕ) (K : PUnit → sProp 𝕄) :
    iprop(owns (c : Thread nD τ) a1 fullShare x ∗ owns (c : Thread nD τ) a2 fullShare d1 ∗ owns (c : Thread nD τ) a3 fullShare d2
        ∗ (∃ d, owns (c : Thread nD τ) a4 fullShare d) ∗ (∃ d, owns (c : Thread nD τ) a5 fullShare d)
        ∗ (iprop(owns (c : Thread nD τ) a1 fullShare x ∗ owns (c : Thread nD τ) a2 fullShare d1 ∗ owns (c : Thread nD τ) a3 fullShare d2
            ∗ owns (c : Thread nD τ) a4 fullShare (k0_pay3 x) ∗ owns (c : Thread nD τ) a5 fullShare (k0_pay4 x)) -∗ K ⟨⟩))
      ⊢ wp frame (wpE (defs₀ (F := F)) Variants.none c none) E (cc0__minmax_body i a1 h1 a2 h2 a3 h3 a4 h4 a5 h5) K := by
  simp only [cc0__minmax_body_eq_skeleton]; unfold cc0__minmax_body_skel
  unfold owns
  iintro ⟨⟨%f0, %hf0, H0⟩, ⟨%f1, %hf1, H1⟩, ⟨%f2, %hf2, H2⟩, ⟨%e0, %fs0, -, HS0⟩, ⟨%e1, %fs1, -, HS1⟩, Hk⟩
  obtain rfl := h1.eq_unread hf0
  sl_exec (disch := first | sl_exact hf | sl_exact hl | sl_exact hz)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro; exact (read_one _ zz _ _ _).trans (by rw [load_all _ h1 zz])
  iexists _; isplitr
  swap; · iexact HS1
  ipureintro; exact (read_one _ zz _ _ _).trans (by rw [load_all _ h1 zz])

set_option maxHeartbeats 1000000 in
/-- A middle point: each scratch row is joined with the block's values; the results are untouched. -/
theorem run_later (hf : ¬ isFirst i) (hl : isLater i) (hz : ¬ isLast i) (x : Vec F S2000x26 .f32)
    (d1 d2 s1 s2 : Vec F S1x26 .f32) (E : Set ℕ) (K : PUnit → sProp 𝕄) :
    iprop(owns (c : Thread nD τ) a1 fullShare x ∗ owns (c : Thread nD τ) a2 fullShare d1 ∗ owns (c : Thread nD τ) a3 fullShare d2
        ∗ owns (c : Thread nD τ) a4 fullShare s1 ∗ owns (c : Thread nD τ) a5 fullShare s2
        ∗ (iprop(owns (c : Thread nD τ) a1 fullShare x ∗ owns (c : Thread nD τ) a2 fullShare d1 ∗ owns (c : Thread nD τ) a3 fullShare d2
            ∗ owns (c : Thread nD τ) a4 fullShare (k0_pay5 x s1) ∗ owns (c : Thread nD τ) a5 fullShare (k0_pay6 x s2)) -∗ K ⟨⟩))
      ⊢ wp frame (wpE (defs₀ (F := F)) Variants.none c none) E (cc0__minmax_body i a1 h1 a2 h2 a3 h3 a4 h4 a5 h5) K := by
  simp only [cc0__minmax_body_eq_skeleton]; unfold cc0__minmax_body_skel
  unfold owns
  iintro ⟨⟨%f0, %hf0, H0⟩, ⟨%f1, %hf1, H1⟩, ⟨%f2, %hf2, H2⟩, ⟨%fs0, %hs0, HS0⟩, ⟨%fs1, %hs1, HS1⟩, Hk⟩
  obtain rfl := h1.eq_unread hf0; obtain rfl := h4.eq_unread hs0; obtain rfl := h5.eq_unread hs1
  sl_exec (disch := first | sl_exact hf | sl_exact hl | sl_exact hz)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr
    swap; · iexact HS0
    ipureintro; exact (read_one _ zz _ _ _).trans (by rw [load_all _ h1 zz, load_all _ h4 zz])
  iexists _; isplitr
  swap; · iexact HS1
  ipureintro; exact (read_one _ zz _ _ _).trans (by rw [load_all _ h1 zz, load_all _ h5 zz])

set_option maxHeartbeats 1000000 in
/-- The last point: as a middle one, and the two rows are copied to the results. -/
theorem run_last (hf : ¬ isFirst i) (hl : isLater i) (hz : isLast i) (x : Vec F S2000x26 .f32)
    (s1 s2 : Vec F S1x26 .f32) (E : Set ℕ) (K : PUnit → sProp 𝕄) :
    iprop(owns (c : Thread nD τ) a1 fullShare x ∗ (∃ d, owns (c : Thread nD τ) a2 fullShare d) ∗ (∃ d, owns (c : Thread nD τ) a3 fullShare d)
        ∗ owns (c : Thread nD τ) a4 fullShare s1 ∗ owns (c : Thread nD τ) a5 fullShare s2
        ∗ (iprop(owns (c : Thread nD τ) a1 fullShare x ∗ owns (c : Thread nD τ) a2 fullShare (k0_pay5 x s1) ∗ owns (c : Thread nD τ) a3 fullShare (k0_pay6 x s2)
            ∗ owns (c : Thread nD τ) a4 fullShare (k0_pay5 x s1) ∗ owns (c : Thread nD τ) a5 fullShare (k0_pay6 x s2)) -∗ K ⟨⟩))
      ⊢ wp frame (wpE (defs₀ (F := F)) Variants.none c none) E (cc0__minmax_body i a1 h1 a2 h2 a3 h3 a4 h4 a5 h5) K := by
  simp only [cc0__minmax_body_eq_skeleton]; unfold cc0__minmax_body_skel
  unfold owns
  iintro ⟨⟨%f0, %hf0, H0⟩, ⟨%e1, %f1, -, H1⟩, ⟨%e2, %f2, -, H2⟩, ⟨%fs0, %hs0, HS0⟩, ⟨%fs1, %hs1, HS1⟩, Hk⟩
  obtain rfl := h1.eq_unread hf0; obtain rfl := h4.eq_unread hs0; obtain rfl := h5.eq_unread hs1
  sl_exec (disch := first | sl_exact hf | sl_exact hl | sl_exact hz)
  sl_step
  iapply Hk
  isplitl [H0]
  · iexists _; isplitr; · ipureintro; exact hf0
    iexact H0
  isplitl [H1]
  · iexists _; isplitr
    swap; · iexact H1
    ipureintro; refine (read_one _ zz _ _ _).trans ?_
    refine (View.readCov_unit_zero _ zz _ _).trans ?_
    rw [load_all _ h1 zz, load_all _ h4 zz]
  isplitl [H2]
  · iexists _; isplitr
    swap; · iexact H2
    ipureintro; refine (read_one _ zz _ _ _).trans ?_
    refine (View.readCov_unit_zero _ zz _ _).trans ?_
    rw [load_all _ h1 zz, load_all _ h5 zz]
  isplitl [HS0]
  · iexists _; isplitr
    swap; · iexact HS0
    ipureintro; exact (read_one _ zz _ _ _).trans (by rw [load_all _ h1 zz, load_all _ h4 zz])
  iexists _; isplitr
  swap; · iexact HS1
  ipureintro; exact (read_one _ zz _ _ _).trans (by rw [load_all _ h1 zz, load_all _ h5 zz])

end Runs

/-! ## What the scratch rows carry, and the proof data -/

variable (V : (c : Dev nD) → (b : Ref sig .tc) → Buf (Elt F) ((c : Thread nD τ).loc b))

/-- Block `t` of the input. -/
def rows (c : Dev nD) (t : Fin cfg0.N) : Vec F S2000x26 .f32 :=
  ((cfg0.win 0).blk t).view.read (Elt F) (V c (Pipeline.arrRef spec0 0))

/-- The least values of the columns over the blocks up to `n`, as the kernel joins them. -/
def low (c : Dev nD) : (n : ℕ) → n < cfg0.N → Vec F S1x26 .f32
  | 0, h => k0_pay3 (rows V c ⟨0, h⟩)
  | n + 1, h => k0_pay5 (rows V c ⟨n + 1, h⟩) (low c n (Nat.lt_of_succ_lt h))

/-- The greatest ones. -/
def high (c : Dev nD) : (n : ℕ) → n < cfg0.N → Vec F S1x26 .f32
  | 0, h => k0_pay4 (rows V c ⟨0, h⟩)
  | n + 1, h => k0_pay6 (rows V c ⟨n + 1, h⟩) (high c n (Nat.lt_of_succ_lt h))

/-- The scoped buffers of the second region: held at something all along. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f))

abbrev scLow : Memref sig .tc .vmem S1x26 .f32 := Memref.whole cc0_scratch0
abbrev scHigh : Memref sig .tc .vmem S1x26 .f32 := Memref.whole cc0_scratch1

/-- The scoped buffers no window stages: the two scratch rows and the other region's. -/
theorem scoped_split (c : Dev nD) :
    (Pipeline.scopedRest (Ix := Unit) (Name := ℕ) (U := UR sig nD τ) (Lvl := ℕ) (Val := Elt F) spec0 c : sProp 𝕄)
      = iprop((∃ d, owns (c : Thread nD τ) scLow fullShare d) ∗ (∃ d, owns (c : Thread nD τ) scHigh fullShare d) ∗ others c) := by
  rw [scopedRest0_eq]; unfold others; simp only [scLow, scHigh, owns_whole]; try rfl

/-- The invariant before point `n`. -/
def inv0 (c : Dev nD) : (n : ℕ) → n ≤ cfg0.N → sProp 𝕄
  | 0, _ => Pipeline.scopedRest spec0 c
  | n + 1, h => iprop(owns (c : Thread nD τ) scLow fullShare (low V c n h) ∗ owns (c : Thread nD τ) scHigh fullShare (high V c n h) ∗ others c)

/-- The proof data of the first region. -/
def dat0 (c : Dev nD) : Dat τ (Elt F) Unit ℕ (UR sig nD τ) ℕ cfg0 c where
  A w := V c (Pipeline.arrRef spec0 w)
  after w t := match w with
    | ⟨0, _⟩ => rows V c t
    | ⟨1, _⟩ => low V c t.val t.isLt
    | ⟨2, _⟩ => high V c t.val t.isLt
  Φ t := inv0 V c t.val (Nat.le_of_lt_succ t.isLt)
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = rows V c t := by dsimp only [dat0]
theorem dat0_after1 (c : Dev nD) (t : Fin cfg0.N) : (dat0 V c).after 1 t = low V c t.val t.isLt := by dsimp only [dat0]
theorem dat0_after2 (c : Dev nD) (t : Fin cfg0.N) : (dat0 V c).after 2 t = high V c t.val t.isLt := by dsimp only [dat0]
theorem dat0_inv (c : Dev nD) (t : Fin cfg0.N) : (dat0 V c).Φ t.castSucc = inv0 V c t.val (Nat.le_of_lt t.isLt) := by
  dsimp only [dat0]; exact Pipeline.Dat.Φ_castSucc (inv0 V c) t

/-- The input window holds its block at every point. -/
theorem dat0_before0 (c : Dev nD) (t : Fin cfg0.N) (d) : (dat0 V c).before 0 t d = rows V c t :=
  ((dat0 V c).before_in_eq_fetched 0 rfl (fun _ => rfl) (fun _ _ _ => rfl)
    (fun t => by rw [dat0_after0]; unfold Dat.blockOf rows; rw [dat0_A]; try rfl) t d).trans
    (by unfold Dat.fetched Dat.blockOf rows; rw [dat0_A]; try rfl)

set_option maxHeartbeats 4000000 in
/-- The body at any point, from the invariant before it to the invariant after it. -/
theorem body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
        iprop((dat0 V c).Φ t.succ ∗ (dat0 V c).owesAt () t.succ
          ∗ (dat0 V c).leavesExact 0 t ∗ (dat0 V c).leavesExact 1 t ∗ (dat0 V c).leavesExact 2 t)) := by
  unfold bodyAt0
  simp only [dat0_before0]
  rw [show (dat0 V c).owesAt () t.succ = (dat0 V c).owesAt () t.castSucc from rfl]
  rw [show (dat0 V c).Φ t.succ = inv0 V c (t.val + 1) t.isLt from rfl, dat0_inv]
  rw [show (dat0 V c).leavesExact 0 t = owns (c : Thread nD τ) (st0_0 t) fullShare ((dat0 V c).after 0 t) from by
    unfold Dat.leavesExact; rw [live0 t], dat0_after0]
  obtain ⟨n, hn⟩ := t
  cases n with
  | zero =>
    have h99 : (⟨0, hn⟩ : Fin cfg0.N).val ≠ 99 := (by decide : (0 : ℕ) ≠ 99)
    rw [Dat.leavesExact_idle (dat0 V c) 1 _ (idle1 _ h99) (noFlush1 _ h99), Dat.leavesExact_idle (dat0 V c) 2 _ (idle2 _ h99) (noFlush2 _ h99)]
    simp only [inv0, low, high]
    rw [scoped_split]
    iintro ⟨⟨HS0, HS1, HR⟩, Ho, ⟨%d0, H0⟩, ⟨%d1, H1⟩, ⟨%d2, H2⟩⟩
    iapply (run_first c _ _ _ _ _ _ _ _ _ _ _ ((isFirst_iff _).mpr rfl) (fun h => (isLater_iff _).mp h rfl) (fun h => h99 ((isLast_iff _).mp h)) (rows V c ⟨0, hn⟩) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexists _; iexact H1
    iexists _; iexact H2
  | succ n =>
    by_cases h99 : (⟨n + 1, hn⟩ : Fin cfg0.N).val = 99
    · rw [show (dat0 V c).leavesExact 1 ⟨n + 1, hn⟩ = owns (c : Thread nD τ) (st0_1 ⟨n + 1, hn⟩) fullShare ((dat0 V c).after 1 ⟨n + 1, hn⟩) from by
          unfold Dat.leavesExact; rw [live1 _ h99], dat0_after1]
      rw [show (dat0 V c).leavesExact 2 ⟨n + 1, hn⟩ = owns (c : Thread nD τ) (st0_2 ⟨n + 1, hn⟩) fullShare ((dat0 V c).after 2 ⟨n + 1, hn⟩) from by
          unfold Dat.leavesExact; rw [live2 _ h99], dat0_after2]
      simp only [inv0, low, high]
      iintro ⟨⟨HS0, HS1, HR⟩, Ho, ⟨%d0, H0⟩, ⟨%d1, H1⟩, ⟨%d2, H2⟩⟩
      iapply (run_last c _ _ _ _ _ _ _ _ _ _ _ (fun h => (Nat.succ_ne_zero n) ((isFirst_iff _).mp h)) ((isLater_iff _).mpr (Nat.succ_ne_zero n)) ((isLast_iff _).mpr h99) (rows V c ⟨n + 1, hn⟩) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      iexact H2
    · rw [Dat.leavesExact_idle (dat0 V c) 1 _ (idle1 _ h99) (noFlush1 _ h99), Dat.leavesExact_idle (dat0 V c) 2 _ (idle2 _ h99) (noFlush2 _ h99)]
      simp only [inv0, low, high]
      iintro ⟨⟨HS0, HS1, HR⟩, Ho, ⟨%d0, H0⟩, ⟨%d1, H1⟩, ⟨%d2, H2⟩⟩
      iapply (run_later c _ _ _ _ _ _ _ _ _ _ _ (fun h => (Nat.succ_ne_zero n) ((isFirst_iff _).mp h)) ((isLater_iff _).mpr (Nat.succ_ne_zero n)) (fun h => h99 ((isLast_iff _).mp h)) (rows V c ⟨n + 1, hn⟩) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexists _; iexact H1
      iexists _; iexact H2

/-- The region's body obligation. -/
theorem oblig0 (c : Dev nD) : BodyObligation (dat0 (F := F) V c) (defs₀ (F := F)) Variants.none () Set.univ := fun t => by
  rw [bigSep_W0, bigSep_W0]
  exact triple_restated (body0 V c t) (by unfold defs₀; rw [Defs.onTc_tc]) .rfl fun _ => .rfl

end Cert.KernelIdeal.Hand

end
-- ==== Proof.Ideal.Bucket.lean ====
/-
  The second region: the bucket sums.

  The grid has two hundred points.  Point `t` reads rows `1000 t … 1000 t + 999` of the input, the two rows of least
  and greatest values, the boundaries, the table of differences and the bias row, and writes the same rows of the result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Ideal.MinMax
public import Idealize.ShloMosaic.Lib.Pipeline.Frame
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

/-- The block the body writes, from the blocks it reads: the 26 columns' products added up in four runs, then the bias. -/
def score (x0 : Vec F S1000x26 .f32) (x1 : Vec F S1x26 .f32) (x2 : Vec F S1x26 .f32) (x3 : Vec F S1x256 .f32) (x4 : Vec F S256x16 .f32) (x5 : Vec F S1x16 .f32) : Vec F S1000x16 .f32 :=
  k1_pay1 (k1_pay2 x1 x2 x0) (k1_pay3 x3) (k1_pay4 x4)
    (k1_pay11 (k1_pay2 x1 x2 x0) (k1_pay3 x3) (k1_pay4 x4)
      (k1_pay9 (k1_pay2 x1 x2 x0) (k1_pay3 x3) (k1_pay4 x4)
        (k1_pay8 (k1_pay2 x1 x2 x0) (k1_pay3 x3) (k1_pay4 x4) (k1_pay5 x1 x2 x0 x3 x4) (k1_pay6 x1 x2 x0) (k1_pay7 x3)))
      (k1_pay10 (k1_pay2 x1 x2 x0) (k1_pay3 x3)))
    (k1_pay12 (k1_pay2 x1 x2 x0)) (k1_pay13 (k1_pay3 x3)) x5

set_option maxHeartbeats 2000000 in
/-- One run of the body: the inputs are read, the result block is stored. -/
theorem run_bucket (c : Dev nD) (i : grid1.Coords) (a1 : Memref sig .tc .vmem S1000x26 .f32) (h1 : a1.IsWhole) (a2 : Memref sig .tc .vmem S1x26 .f32) (h2 : a2.IsWhole) (a3 : Memref sig .tc .vmem S1x26 .f32) (h3 : a3.IsWhole) (a4 : Memref sig .tc .vmem S1x256 .f32) (h4 : a4.IsWhole) (a5 : Memref sig .tc .vmem S256x16 .f32) (h5 : a5.IsWhole) (a6 : Memref sig .tc .vmem S1x16 .f32) (h6 : a6.IsWhole) (a7 : Memref sig .tc .vmem S1000x16 .f32) (h7 : a7.IsWhole)
    (x0 : Vec F S1000x26 .f32) (x1 : Vec F S1x26 .f32) (x2 : Vec F S1x26 .f32) (x3 : Vec F S1x256 .f32) (x4 : Vec F S256x16 .f32) (x5 : Vec F S1x16 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5
            ∗ owns (c : Thread nD τ) a7 fullShare (score x0 x1 x2 x3 x4 x5)) -∗ K ⟨⟩))
      ⊢ wp frame (wpE (defs₀ (F := F)) Variants.none c none) E (cc1__bucket_body i a1 h1 a2 h2 a3 h3 a4 h4 a5 h5 a6 h6 a7 h7) K := by
  simp only [cc1__bucket_body_eq_skeleton]; unfold cc1__bucket_body_skel
  simp only [k1_part1_eq_skeleton, k1_part2_eq_skeleton, k1_part3_eq_skeleton, k1_part4_eq_skeleton]
  unfold k1_part1_skel k1_part2_skel k1_part3_skel k1_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := h1.eq_unread hf0; obtain rfl := h2.eq_unread hf1; obtain rfl := h3.eq_unread hf2; obtain rfl := h4.eq_unread hf3; obtain rfl := h5.eq_unread hf4; obtain rfl := h6.eq_unread hf5
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro; refine (read_one _ zz _ _ _).trans ?_
  rw [load_all _ h1 zz, load_all _ h2 zz, load_all _ h3 zz, load_all _ h4 zz, load_all _ h5 zz, load_all _ h6 zz]
  rfl

/-! ## The proof data -/

variable (V : (c : Dev nD) → (b : Ref sig .tc) → Buf (Elt F) ((c : Thread nD τ).loc b))

/-- Window `w`'s block at point `t`. -/
def part (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second region. -/
def dat1 (c : Dev nD) : Dat τ (Elt F) Unit ℕ (UR sig nD τ) ℕ cfg1 c where
  A w := V c (Pipeline.arrRef spec1 w)
  after w t := match w with
    | ⟨0, _⟩ => part V c 0 t
    | ⟨1, _⟩ => part V c 1 t
    | ⟨2, _⟩ => part V c 2 t
    | ⟨3, _⟩ => part V c 3 t
    | ⟨4, _⟩ => part V c 4 t
    | ⟨5, _⟩ => part V c 5 t
    | ⟨6, _⟩ => score (part V c 0 t) (part V c 1 t) (part V c 2 t) (part V c 3 t) (part V c 4 t) (part V c 5 t)
  Φ _ := Pipeline.scopedRest spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = part V c 0 t := by dsimp only [dat1]
theorem dat1_after1 (c : Dev nD) (t : Fin cfg1.N) : (dat1 V c).after 1 t = part V c 1 t := by dsimp only [dat1]
theorem dat1_after2 (c : Dev nD) (t : Fin cfg1.N) : (dat1 V c).after 2 t = part V c 2 t := by dsimp only [dat1]
theorem dat1_after3 (c : Dev nD) (t : Fin cfg1.N) : (dat1 V c).after 3 t = part V c 3 t := by dsimp only [dat1]
theorem dat1_after4 (c : Dev nD) (t : Fin cfg1.N) : (dat1 V c).after 4 t = part V c 4 t := by dsimp only [dat1]
theorem dat1_after5 (c : Dev nD) (t : Fin cfg1.N) : (dat1 V c).after 5 t = part V c 5 t := by dsimp only [dat1]
theorem dat1_after6 (c : Dev nD) (t : Fin cfg1.N) : (dat1 V c).after 6 t
    = score (part V c 0 t) (part V c 1 t) (part V c 2 t) (part V c 3 t) (part V c 4 t) (part V c 5 t) := by dsimp only [dat1]

/-- Each input window holds its block at every point, fetched there or not. -/
theorem dat1_before0 (c : Dev nD) (t : Fin cfg1.N) (d) : (dat1 V c).before 0 t d = part V c 0 t :=
  ((dat1 V c).before_in_eq_fetched 0 rfl (fun _ => rfl) (fun _ _ _ => rfl)
    (fun t => by rw [dat1_after0]; unfold Dat.blockOf part; rw [dat1_A]; try rfl) t d).trans
    (by unfold Dat.fetched Dat.blockOf part; rw [dat1_A]; try rfl)
theorem dat1_before1 (c : Dev nD) (t : Fin cfg1.N) (d) : (dat1 V c).before 1 t d = part V c 1 t :=
  ((dat1 V c).before_in_eq_fetched 1 rfl (fun _ => rfl) (fun _ _ _ => rfl)
    (fun t => by rw [dat1_after1]; unfold Dat.blockOf part; rw [dat1_A]; try rfl) t d).trans
    (by unfold Dat.fetched Dat.blockOf part; rw [dat1_A]; try rfl)
theorem dat1_before2 (c : Dev nD) (t : Fin cfg1.N) (d) : (dat1 V c).before 2 t d = part V c 2 t :=
  ((dat1 V c).before_in_eq_fetched 2 rfl (fun _ => rfl) (fun _ _ _ => rfl)
    (fun t => by rw [dat1_after2]; unfold Dat.blockOf part; rw [dat1_A]; try rfl) t d).trans
    (by unfold Dat.fetched Dat.blockOf part; rw [dat1_A]; try rfl)
theorem dat1_before3 (c : Dev nD) (t : Fin cfg1.N) (d) : (dat1 V c).before 3 t d = part V c 3 t :=
  ((dat1 V c).before_in_eq_fetched 3 rfl (fun _ => rfl) (fun _ _ _ => rfl)
    (fun t => by rw [dat1_after3]; unfold Dat.blockOf part; rw [dat1_A]; try rfl) t d).trans
    (by unfold Dat.fetched Dat.blockOf part; rw [dat1_A]; try rfl)
theorem dat1_before4 (c : Dev nD) (t : Fin cfg1.N) (d) : (dat1 V c).before 4 t d = part V c 4 t :=
  ((dat1 V c).before_in_eq_fetched 4 rfl (fun _ => rfl) (fun _ _ _ => rfl)
    (fun t => by rw [dat1_after4]; unfold Dat.blockOf part; rw [dat1_A]; try rfl) t d).trans
    (by unfold Dat.fetched Dat.blockOf part; rw [dat1_A]; try rfl)
theorem dat1_before5 (c : Dev nD) (t : Fin cfg1.N) (d) : (dat1 V c).before 5 t d = part V c 5 t :=
  ((dat1 V c).before_in_eq_fetched 5 rfl (fun _ => rfl) (fun _ _ _ => rfl)
    (fun t => by rw [dat1_after5]; unfold Dat.blockOf part; rw [dat1_A]; try rfl) t d).trans
    (by unfold Dat.fetched Dat.blockOf part; rw [dat1_A]; try rfl)

/-- The body at any point. -/
theorem body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ owns (c : Thread nD τ) (st1_4 t) fullShare ((dat1 V c).after 4 t)
          ∗ owns (c : Thread nD τ) (st1_5 t) fullShare ((dat1 V c).after 5 t)
          ∗ owns (c : Thread nD τ) (st1_6 t) fullShare ((dat1 V c).after 6 t))) := by
  unfold bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HI, Ho, ⟨%d0, H0⟩, ⟨%d1, H1⟩, ⟨%d2, H2⟩, ⟨%d3, H3⟩, ⟨%d4, H4⟩, ⟨%d5, H5⟩, ⟨%d6, H6⟩⟩
  iapply (run_bucket c (grid1.coords t) _ _ _ _ _ _ _ _ _ _ _ _ _ _ (part V c 0 t) (part V c 1 t) (part V c 2 t) (part V c 3 t) (part V c 4 t) (part V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The region's body obligation. -/
theorem oblig1 (c : Dev nD) : BodyObligation (dat1 (F := F) V c) (defs₀ (F := F)) Variants.none () Set.univ := fun t => by
  rw [bigSep_W1, bigSep_W1]
  exact triple_restated (body1 V c t) (by unfold defs₀; rw [Defs.onTc_tc]) .rfl fun _ => .rfl

end Cert.KernelIdeal.Hand

end
-- ==== Proof.Ideal.Run.lean ====
/-
  The whole program: the host operations, the two regions in turn, and what is in memory at the end.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Ideal.Bucket
public import proofs.«01_k».proof.Proof.Gen.KernelIdeal.Regions
public import Idealize.ShloMosaic.Lib.Pipeline.Frame
public import Idealize.ShloMosaic.Lib.Pipeline.Regions
public import Idealize.ShloMosaic.Lib.Pipeline.RegionArraysS
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers between the items -/

/-- What the first region finds. -/
abbrev B3 (c : Dev nD) (b : Ref sig .tc) : Buf (Elt F) ((c : Thread nD τ).loc b) := V3 m c b

/-- The unscoped buffers after the first region. -/
def V4' (c : Dev nD) : Valuation τ sig (Elt F) := Pipeline.afterRegion (dat0 (B3 m) c) (V3 m c)

/-- What the second region finds. -/
abbrev B4 (c : Dev nD) (b : Ref sig .tc) : Buf (Elt F) ((c : Thread nD τ).loc b) := V4' m c b

/-- The unscoped buffers at the end. -/
def V5' (c : Dev nD) : Valuation τ sig (Elt F) := Pipeline.afterRegion (dat1 (B4 m) c) (V4' m c)

theorem V3_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_arg1 (c : Dev nD) : V3 m c main_arg1 = m ((c : Thread nD τ).loc main_arg1) :=
  (V3_of m c main_arg1 (by decide)).trans <| (V2_of m c main_arg1 (by decide)).trans <| (V1_of m c main_arg1 (by decide)).trans rfl
theorem V3_arg2 (c : Dev nD) : V3 m c main_arg2 = m ((c : Thread nD τ).loc main_arg2) :=
  (V3_of m c main_arg2 (by decide)).trans <| (V2_of m c main_arg2 (by decide)).trans <| (V1_of m c main_arg2 (by decide)).trans rfl
theorem V3_arg3 (c : Dev nD) : V3 m c main_arg3 = m ((c : Thread nD τ).loc main_arg3) :=
  (V3_of m c main_arg3 (by decide)).trans <| (V2_of m c main_arg3 (by decide)).trans <| (V1_of m c main_arg3 (by decide)).trans rfl
theorem V3_arg4 (c : Dev nD) : V3 m c main_arg4 = m ((c : Thread nD τ).loc main_arg4) :=
  (V3_of m c main_arg4 (by decide)).trans <| (V2_of m c main_arg4 (by decide)).trans <| (V1_of m c main_arg4 (by decide)).trans rfl

theorem end_arg0 (c : Dev nD) : V5' m c main_arg0 = m ((c : Thread nD τ).loc main_arg0) :=
  (Pipeline.afterRegion_keeps _ _ launch1.win.arr_inj (fun w => dat1_A _ c w) main_arg0 (by decide)).trans <|
    (Pipeline.afterRegion_keeps _ _ launch0.win.arr_inj (fun w => dat0_A _ c w) main_arg0 (by decide)).trans (V3_arg0 m c)
theorem end_arg1 (c : Dev nD) : V5' m c main_arg1 = m ((c : Thread nD τ).loc main_arg1) :=
  (Pipeline.afterRegion_keeps _ _ launch1.win.arr_inj (fun w => dat1_A _ c w) main_arg1 (by decide)).trans <|
    (Pipeline.afterRegion_keeps _ _ launch0.win.arr_inj (fun w => dat0_A _ c w) main_arg1 (by decide)).trans (V3_arg1 m c)
theorem end_arg2 (c : Dev nD) : V5' m c main_arg2 = m ((c : Thread nD τ).loc main_arg2) :=
  (Pipeline.afterRegion_keeps _ _ launch1.win.arr_inj (fun w => dat1_A _ c w) main_arg2 (by decide)).trans <|
    (Pipeline.afterRegion_keeps _ _ launch0.win.arr_inj (fun w => dat0_A _ c w) main_arg2 (by decide)).trans (V3_arg2 m c)
theorem end_arg3 (c : Dev nD) : V5' m c main_arg3 = m ((c : Thread nD τ).loc main_arg3) :=
  (Pipeline.afterRegion_keeps _ _ launch1.win.arr_inj (fun w => dat1_A _ c w) main_arg3 (by decide)).trans <|
    (Pipeline.afterRegion_keeps _ _ launch0.win.arr_inj (fun w => dat0_A _ c w) main_arg3 (by decide)).trans (V3_arg3 m c)
theorem end_arg4 (c : Dev nD) : V5' m c main_arg4 = m ((c : Thread nD τ).loc main_arg4) :=
  (Pipeline.afterRegion_keeps _ _ launch1.win.arr_inj (fun w => dat1_A _ c w) main_arg4 (by decide)).trans <|
    (Pipeline.afterRegion_keeps _ _ launch0.win.arr_inj (fun w => dat0_A _ c w) main_arg4 (by decide)).trans (V3_arg4 m c)

/-! ## The regions over the thread state -/

/-- The regions' proof data. -/
def pdats : (p : Fin 2) → (c : Dev nD) → Dat τ (Elt F) Unit ℕ (UR sig nD τ) ℕ (cfgs p) c
  | ⟨0, _⟩ => fun c => dat0 (B3 m) c
  | ⟨1, _⟩ => fun c => dat1 (B4 m) c

/-- One level, on the TensorCores' semaphores. -/
abbrev lev (g : GSem nD τ sig) : Finset Unit := if g.1.2 = .tc then {()} else ∅
abbrev lv0 : GSem nD τ sig → Unit → ℕ := fun _ _ => 0

/-- What rides along: the core owes nothing. -/
abbrev rest (c : Dev nD) : sProp 𝕄 := iprop(∃ W, owes (c : Thread nD τ) (0 : CellTallies nD τ sig Unit) W)

theorem cut (p : Fin 2) : Pipeline.LevelCut (nD := nD) (pcfgs (F := F)) adm () lev lv0 p (fun _ => 0) (fun _ => 0) where
  hι c w s := by simp [lev]
  hιb c w s := le_rfl
  hD c g i h := absurd h (by simp)

theorem start_emp (P : sProp 𝕄) : iprop(P ∗ BI.emp) ⊢ P := by
  iintro ⟨H, -⟩; iexact H

theorem stop_emp (P : sProp 𝕄) : P ⊢ iprop(P ∗ BI.emp) := by
  iintro H
  isplitl; · iexact H
  iempintro

/-- The first region gives the scratch rows back. -/
theorem inv0_out (V : (c : Dev nD) → (b : Ref sig .tc) → Buf (Elt F) ((c : Thread nD τ).loc b)) (c : Dev nD) :
    ∀ n h, inv0 V c n h ⊢ iprop(Pipeline.scopedRest spec0 c ∗ BI.emp)
  | 0, _ => stop_emp _
  | n + 1, h => by
    rw [scoped_split]
    simp only [inv0]
    iintro ⟨H0, H1, HR⟩
    isplitl
    · isplitl [H0]; · iexists _; iexact H0
      isplitl [H1]; · iexists _; iexact H1
      iexact HR
    iempintro

theorem pack_emp (P Q : sProp 𝕄) : iprop(P ∗ Q) ⊢ iprop(P ∗ (Q ∗ BI.emp ∗ BI.emp)) := by
  iintro ⟨H, HO⟩
  isplitl [H]; · iexact H
  isplitl [HO]; · iexact HO
  isplitr <;> iempintro

theorem unpack_emp (P Q : sProp 𝕄) : iprop(P ∗ (Q ∗ BI.emp ∗ BI.emp)) ⊢ iprop(P ∗ Q) := by
  iintro ⟨H, HO, -, -⟩
  isplitl [H]; · iexact H
  iexact HO

theorem arrays0 : Pipeline.arrRefs (τ := τ) spec0 ⊆ Pipeline.ucRefs τ sig := by decide
theorem arrays1 : Pipeline.arrRefs (τ := τ) spec1 ⊆ Pipeline.ucRefs τ sig := by decide

theorem sub0 : Pipeline.arrRefs (τ := τ) (pcfgs (F := F) 0).spec ⊆ Pipeline.ucRefs τ sig := arrays0
theorem sub1 : Pipeline.arrRefs (τ := τ) (pcfgs (F := F) 1).spec ⊆ Pipeline.ucRefs τ sig := arrays1

theorem hbody0 (c : Dev nD) : Pipeline.BodyObligationLoose (pdats m 0 c) defs₀ Variants.none () Set.univ := (oblig0 (B3 m) c).loose
theorem hbody1 (c : Dev nD) : Pipeline.BodyObligationLoose (pdats m 1 c) defs₀ Variants.none () Set.univ := (oblig1 (B4 m) c).loose
theorem hfirst0 (c : Dev nD) : (pdats m 0 c).Φ 0 = Pipeline.scopedRest spec0 c := rfl
theorem hin0 (c : Dev nD) : iprop(Pipeline.scopedRest (Pipeline.pin (pcfgs (F := F)) adm 0).spec c ∗ BI.emp) ⊢ (pdats m 0 c).Φ 0 := by
  rw [hfirst0]; exact start_emp _
theorem hfirst1 (c : Dev nD) : (pdats m 1 c).Φ 0 = Pipeline.scopedRest spec1 c := rfl
theorem hin1 (c : Dev nD) : iprop(Pipeline.scopedRest (Pipeline.pin (pcfgs (F := F)) adm 1).spec c ∗ BI.emp) ⊢ (pdats m 1 c).Φ 0 := by
  rw [hfirst1]; exact start_emp _
theorem hlast0 (c : Dev nD) : (pdats m 0 c).Φ (Fin.last (Pipeline.pin (pcfgs (F := F)) adm 0).N) = inv0 (B3 m) c cfg0.N le_rfl := rfl
theorem hlast1 (c : Dev nD) : (pdats m 1 c).Φ (Fin.last (Pipeline.pin (pcfgs (F := F)) adm 1).N) = Pipeline.scopedRest spec1 c := rfl
theorem hout0 (c : Dev nD) : (pdats m 0 c).Φ (Fin.last (Pipeline.pin (pcfgs (F := F)) adm 0).N)
    ⊢ iprop(Pipeline.scopedRest (Pipeline.pin (pcfgs (F := F)) adm 0).spec c ∗ BI.emp) := by
  rw [hlast0]; exact inv0_out (B3 m) c _ _
theorem hout1 (c : Dev nD) : (pdats m 1 c).Φ (Fin.last (Pipeline.pin (pcfgs (F := F)) adm 1).N)
    ⊢ iprop(Pipeline.scopedRest (Pipeline.pin (pcfgs (F := F)) adm 1).spec c ∗ BI.emp) := by
  rw [hlast1]; exact stop_emp _

set_option backward.isDefEq.respectTransparency.types false in
/-- The first region: from the buffers after the host operations. -/
def reg0 : RegionSeg (pcfgs (F := F)) adm (pdats m) () defs₀ Variants.none lev lv0 0 :=
  RegionSeg.ofHeldIn (pcfgs (F := F)) adm (pdats m) () defs₀ Variants.none lev lv0 0 (fun _ => 0) (Pipeline.ucRefs τ sig) (fun _ => BI.emp) (fun _ => BI.emp)
    launch0.toP rfl (hbody0 m) (fun _ _ => rfl) (fun _ => rfl) (fun c w => (pdats m 0 c).share_full (fun _ => rfl) w)
    (hin0 m) (hout0 m) (fun _ => 0) (cut 0) (fun _ => BI.emp) (V3 m) (fun c w => dat0_A (B3 m) c w)

set_option backward.isDefEq.respectTransparency.types false in
/-- The second region: from the buffers after the first. -/
def reg1 : RegionSeg (pcfgs (F := F)) adm (pdats m) () defs₀ Variants.none lev lv0 1 :=
  RegionSeg.ofHeldIn (pcfgs (F := F)) adm (pdats m) () defs₀ Variants.none lev lv0 1 (fun _ => 0) (Pipeline.ucRefs τ sig) (fun _ => BI.emp) (fun _ => BI.emp)
    launch1.toP rfl (hbody1 m) (fun _ _ => rfl) (fun _ => rfl) (fun c w => (pdats m 1 c).share_full (fun _ => rfl) w)
    (hin1 m) (hout1 m) (fun _ => 0) (cut 1) (fun _ => BI.emp) (V4' m) (fun c w => dat1_A (B4 m) c w)

set_option backward.isDefEq.respectTransparency.types false in
theorem reg0_pre (c : Dev nD) : iprop(StableHlo.held (c : Thread nD τ) (Pipeline.ucRefs τ sig) (V3 m c) ∗ rest c) ⊢ (reg0 m).pre c := by
  refine (pack_emp _ _).trans ?_
  unfold reg0
  exact RegionSeg.ofHeldIn_pre (pcs := pcfgs (F := F)) (a := adm) (pdats := pdats m) (p := 0) (D := fun _ => 0) (X := fun _ => BI.emp) (Y := fun _ => BI.emp)
    (R := fun _ => BI.emp) (W := V3 m) sub0 c

set_option backward.isDefEq.respectTransparency.types false in
theorem reg0_post (c : Dev nD) : (reg0 m).post c ⊢ iprop(StableHlo.held (c : Thread nD τ) (Pipeline.ucRefs τ sig) (V4' m c) ∗ rest c) := by
  unfold reg0
  exact (RegionSeg.ofHeldIn_post (pcs := pcfgs (F := F)) (a := adm) (pdats := pdats m) (p := 0) (D := fun _ => 0) (X := fun _ => BI.emp) (Y := fun _ => BI.emp)
    (R := fun _ => BI.emp) (W := V3 m) sub0 c).trans (unpack_emp _ _)

set_option backward.isDefEq.respectTransparency.types false in
theorem reg1_pre (c : Dev nD) : iprop(StableHlo.held (c : Thread nD τ) (Pipeline.ucRefs τ sig) (V4' m c) ∗ rest c) ⊢ (reg1 m).pre c := by
  refine (pack_emp _ _).trans ?_
  unfold reg1
  exact RegionSeg.ofHeldIn_pre (pcs := pcfgs (F := F)) (a := adm) (pdats := pdats m) (p := 1) (D := fun _ => 0) (X := fun _ => BI.emp) (Y := fun _ => BI.emp)
    (R := fun _ => BI.emp) (W := V4' m) sub1 c

set_option backward.isDefEq.respectTransparency.types false in
theorem reg1_post (c : Dev nD) : (reg1 m).post c ⊢ iprop(StableHlo.held (c : Thread nD τ) (Pipeline.ucRefs τ sig) (V5' m c) ∗ rest c) := by
  unfold reg1
  exact (RegionSeg.ofHeldIn_post (pcs := pcfgs (F := F)) (a := adm) (pdats := pdats m) (p := 1) (D := fun _ => 0) (X := fun _ => BI.emp) (Y := fun _ => BI.emp)
    (R := fun _ => BI.emp) (W := V4' m) sub1 c).trans (unpack_emp _ _)

/-! ## The run -/

set_option backward.isDefEq.respectTransparency.types false in
set_option maxHeartbeats 1000000 in
/-- Every execution ends with the arguments as launched, the result as the second region leaves it, and every
    semaphore counter at zero. -/
theorem run (ρ : Dev nD → PrngReg) :
    θ_run defs (onTc (τ := τ) (main (F := F))) ⟨m, fun _ => 0, ρ⟩ (fun r => (∀ c : Dev nD,
        r.2.mem ((c.tc : Thread nD τ).loc main_v25) = V5' m c main_v25
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) := by
  refine Pipeline.θ_run_regions_kit_dev_sems (pcfgs (F := F)) adm (pdats m) () cellOf_inj emb₁ defs₀ Variants.none lev lv0 m ρ main
    (segs m Variants.none lev lv0 (fun _ => rest) () (pdats m) (reg0 m) (reg1 m))
    (fun c Q => by
      rewrite [main_chain c, Seg.run_eq_chain,
        show (segs m Variants.none lev lv0 (fun _ => rest) () (pdats m) (reg0 m) (reg1 m) c).map Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => by simp [lev, hg]) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5' m c))
    (hch := fun c => ⟨.rfl, .rfl, .rfl, reg0_pre m c, (reg0_post m c).trans (reg1_pre m c), reg1_post m c⟩)
    (hinit := Pipeline.initEach lev lv0 fun c => ?_)
    (QY := fun c s => s.mem ((c.tc : Thread nD τ).loc main_v25) = V5' m c main_v25 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · rw [← Pipeline.unscopedBufs_held (Ix := Unit) (Name := ℕ) (U := UR sig nD τ) (Lvl := ℕ) c (V0 m c)]
    iintro ⟨⟨Hb, -, HO, -, -, -⟩, -⟩
    imodintro
    isplitl [Hb]; · iexact Hb
    iexists _; iexact HO
  · unfold StableHlo.held
    iintro ⟨Hh, HSI⟩
    ihave Hr := (pointsTo_read_all (Pipeline.ucRefs τ sig) (fun b => ((c : Thread nD τ).1, b)) (V5' m c) s') $$ [Hh HSI]
    · isplitl [Hh] <;> iassumption
    icases Hr with ⟨%h, HSI⟩
    imodintro
    isplitr
    · ipureintro
      exact ⟨h (Proc.devRef .tc main_v25) (Finset.mem_filter.mpr ⟨StableHlo.devRef_mem_tcRefs main_v25, by decide⟩),
        (h (Proc.devRef .tc main_arg0) (Finset.mem_filter.mpr ⟨StableHlo.devRef_mem_tcRefs main_arg0, by decide⟩)).trans (end_arg0 m c),
        (h (Proc.devRef .tc main_arg1) (Finset.mem_filter.mpr ⟨StableHlo.devRef_mem_tcRefs main_arg1, by decide⟩)).trans (end_arg1 m c),
        (h (Proc.devRef .tc main_arg2) (Finset.mem_filter.mpr ⟨StableHlo.devRef_mem_tcRefs main_arg2, by decide⟩)).trans (end_arg2 m c),
        (h (Proc.devRef .tc main_arg3) (Finset.mem_filter.mpr ⟨StableHlo.devRef_mem_tcRefs main_arg3, by decide⟩)).trans (end_arg3 m c),
        (h (Proc.devRef .tc main_arg4) (Finset.mem_filter.mpr ⟨StableHlo.devRef_mem_tcRefs main_arg4, by decide⟩)).trans (end_arg4 m c)⟩
    · iexact HSI

end Cert.KernelIdeal.Hand

end
-- ==== Proof.Value.Math.lean ====
/-
  Facts about extended reals and counting that the comparison of the two programs rests on.  No program occurs here.
-/
module

public import Idealize.ShloMosaic.Lib.Pointwise
public import Mathlib.Data.EReal.Operations
public import Mathlib.Data.EReal.Inv

@[expose] public section

set_option maxRecDepth 16384

noncomputable section

namespace Cert.Value

open Idealize.ShloMosaic

/-- A sum of reals, read as extended reals. -/
theorem coe_sum {ι : Type} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

/-! ## A sum of steps -/

/-- Differences of consecutive terms from the `m`-th on, over the first `N` terms. -/
theorem sum_steps (g : ℕ → ℝ) (m N : ℕ) :
    ∑ k ∈ Finset.range N, (if m ≤ k then g k - g (k + 1) else 0) = if m ≤ N then g m - g N else 0 := by
  induction N with
  | zero =>
    rw [Finset.sum_range_zero]
    by_cases h : m ≤ 0
    · rw [if_pos h, Nat.le_zero.1 h, sub_self]
    · rw [if_neg h]
  | succ N ih =>
    rw [Finset.sum_range_succ, ih]
    by_cases h : m ≤ N
    · rw [if_pos h, if_pos h, if_pos (Nat.le_succ_of_le h)]; ring
    · rw [if_neg h, if_neg h]
      by_cases h' : m ≤ N + 1
      · rw [if_pos h', show m = N + 1 by omega]; ring
      · rw [if_neg h']; ring

/-- The table of steps of `T`: each entry less the next one, the last entry itself. -/
def steps (T : Fin 256 → EReal) (k : Fin 256) : EReal :=
  if h : k.val < 255 then T k - T ⟨k.val + 1, by omega⟩ else T 255

/-- The steps of a finite table from its `m`-th entry on add up to that entry. -/
theorem steps_from (T : Fin 256 → EReal) (hT : ∀ k, T k ≠ ⊤ ∧ T k ≠ ⊥) (m : ℕ) (hm : m < 256) :
    ∑ k : Fin 256, (if m ≤ k.val then (1 : EReal) else 0) * steps T k = T ⟨m, hm⟩ := by
  let g : ℕ → ℝ := fun k => if h : k < 256 then (T ⟨k, h⟩).toReal else 0
  have hg : ∀ k : Fin 256, T k = ((g k.val : ℝ) : EReal) := fun k => by
    show T k = (((if h : k.val < 256 then (T ⟨k.val, h⟩).toReal else 0 : ℝ)) : EReal)
    rw [dif_pos k.isLt]
    exact (EReal.coe_toReal (hT k).1 (hT k).2).symm
  have h256 : g 256 = 0 := by simp [g]
  have e : ∀ k : Fin 256, (if m ≤ k.val then (1 : EReal) else 0) * steps T k
      = (((if m ≤ k.val then g k.val - g (k.val + 1) else 0 : ℝ)) : EReal) := fun k => by
    have hs : steps T k = ((g k.val - g (k.val + 1) : ℝ) : EReal) := by
      unfold steps
      by_cases hk : k.val < 255
      · rw [dif_pos hk, hg k, hg ⟨k.val + 1, by omega⟩, EReal.coe_sub]
      · have : k = 255 := Fin.ext (show k.val = 255 by omega)
        subst this
        rw [dif_neg hk, hg 255]
        show ((g 255 : ℝ) : EReal) = ((g 255 - g 256 : ℝ) : EReal)
        rw [h256, sub_zero]
    rw [hs]
    by_cases h : m ≤ k.val
    · rw [if_pos h, if_pos h, one_mul]
    · rw [if_neg h, if_neg h, zero_mul, EReal.coe_zero]
  rw [Finset.sum_congr rfl fun k _ => e k, ← coe_sum,
    Fin.sum_univ_eq_sum_range (fun k => if m ≤ k then g k - g (k + 1) else 0) 256, sum_steps, if_pos hm.le, h256, sub_zero]
  exact (hg ⟨m, hm⟩).symm

/-! ## Counting the edges below a value -/

/-- How many of the edges lie below `x`. -/
def below (B : Fin 256 → EReal) (x : EReal) : ℕ := (Finset.univ.filter fun k => B k < x).card

/-- Among nondecreasing edges, those below `x` are the first ones. -/
theorem lt_below (B : Fin 256 → EReal) (hB : Monotone B) (x : EReal) (k : Fin 256) : B k < x ↔ k.val < below B x := by
  constructor
  · intro h
    have : Finset.univ.filter (fun i : Fin 256 => i ≤ k) ⊆ Finset.univ.filter fun i => B i < x := fun i hi => by
      rw [Finset.mem_filter] at hi ⊢
      exact ⟨hi.1, lt_of_le_of_lt (hB hi.2) h⟩
    have hc := Finset.card_le_card this
    have h2 : (Finset.univ.filter (fun i : Fin 256 => i ≤ k)).card = k.val + 1 := by
      rw [show (Finset.univ.filter fun i : Fin 256 => i ≤ k) = Finset.Iic k by ext i; simp, Fin.card_Iic]
    show k.val < (Finset.univ.filter fun i => B i < x).card
    omega
  · intro h
    by_contra hn
    have : (Finset.univ.filter fun i => B i < x) ⊆ Finset.univ.filter (fun i : Fin 256 => i < k) := fun i hi => by
      rw [Finset.mem_filter] at hi ⊢
      refine ⟨hi.1, ?_⟩
      by_contra hk
      exact hn (lt_of_le_of_lt (hB (not_lt.1 hk)) hi.2)
    have hc := Finset.card_le_card this
    have h2 : (Finset.univ.filter (fun i : Fin 256 => i < k)).card = k.val := by
      rw [show (Finset.univ.filter fun i : Fin 256 => i < k) = Finset.Iio k by ext i; simp, Fin.card_Iio]
    have h3 : k.val < (Finset.univ.filter fun i => B i < x).card := h
    omega

/-- The bucket of `x`: how many edges lie below it, at most 255. -/
def bucket (B : Fin 256 → EReal) (x : EReal) : Fin 256 := ⟨min (below B x) 255, by omega⟩

/-- The steps at the edges not below `x`, the last edge moved to `⊤`, add up to the entry of the bucket of `x`. -/
theorem steps_bucket (B : Fin 256 → EReal) (hB : Monotone B) (T : Fin 256 → EReal) (hT : ∀ k, T k ≠ ⊤ ∧ T k ≠ ⊥) (x : EReal) :
    ∑ k : Fin 256, (if x ≤ (if k = 255 then ⊤ else B k) then (1 : EReal) else 0) * steps T k = T (bucket B x) := by
  rw [← steps_from T hT (bucket B x).val (bucket B x).isLt]
  refine Finset.sum_congr rfl fun k _ => ?_
  have hk := lt_below B hB x k
  have : (x ≤ (if k = 255 then ⊤ else B k)) ↔ (bucket B x).val ≤ k.val := by
    show _ ↔ min (below B x) 255 ≤ k.val
    by_cases h : k = 255
    · subst h
      rw [if_pos rfl]
      exact ⟨fun _ => min_le_right _ _, fun _ => le_top⟩
    · rw [if_neg h, ← not_lt, hk]
      have : k.val ≠ 255 := fun e => h (Fin.ext e)
      omega
  simp only [this]

/-! ## Running sums -/

/-- The sum of the entries up to and including the `j`-th. -/
def running (p : Fin 256 → EReal) (j : Fin 256) : EReal := ∑ i : Fin 256, if i ≤ j then p i else 0

theorem running_mono (p : Fin 256 → EReal) (hp : (∀ i, 0 ≤ p i) ∨ ∀ i, p i = ⊥) : Monotone (running p) := by
  rcases hp with hp | hp
  · intro j j' h
    refine Finset.sum_le_sum fun i _ => ?_
    by_cases hi : i ≤ j
    · rw [if_pos hi, if_pos (hi.trans h)]
    · rw [if_neg hi]
      by_cases hi' : i ≤ j'
      · rw [if_pos hi']; exact hp i
      · rw [if_neg hi']
  · have e : ∀ j, running p j = ⊥ := fun j => by
      unfold running
      rw [← Finset.add_sum_erase _ _ (Finset.mem_univ (0 : Fin 256)), if_pos (Fin.zero_le j), hp, EReal.bot_add]
    intro j j' _
    rw [e, e]

/-- Quotients of nonnegative values by their sum: all nonnegative, or (when the sum vanishes) all `⊥`. -/
theorem shares (e : Fin 256 → EReal) (he : ∀ i, 0 ≤ e i) :
    (∀ i, 0 ≤ Ideal.div (e i) (∑ k, e k)) ∨ ∀ i, Ideal.div (e i) (∑ k, e k) = ⊥ := by
  by_cases h : ∑ k, e k = 0
  · right
    intro i
    have hi : e i = 0 := (Finset.sum_eq_zero_iff_of_nonneg fun k _ => he k).1 h i (Finset.mem_univ i)
    unfold Ideal.div
    rw [if_pos h, hi, if_neg (lt_irrefl _)]
  · left
    intro i
    unfold Ideal.div
    rw [if_neg h]
    exact mul_nonneg (he i) (EReal.inv_nonneg_of_nonneg (Finset.sum_nonneg fun k _ => he k))

theorem exp_nonneg (x : EReal) : 0 ≤ Ideal.exp x := by
  induction x with
  | bot => exact le_rfl
  | top => exact le_top
  | coe r => exact EReal.coe_nonneg.2 (Real.exp_pos r).le

/-! ## Scaling to the unit interval -/

/-- The width of a column, made positive by a small constant, is not zero. -/
theorem width_ne (mn mx ε : EReal) (h : mn ≤ mx) (hε : 0 < ε) (hε' : ε ≠ ⊤) : mx - mn + ε ≠ 0 := by
  induction ε with
  | bot => exact absurd hε (not_lt_bot)
  | top => exact absurd rfl hε'
  | coe e =>
    have he : 0 < e := EReal.coe_pos.1 hε
    induction mn with
    | bot =>
      induction mx with
      | bot => exact EReal.bot_ne_zero
      | top => exact EReal.top_ne_zero
      | coe r => exact EReal.top_ne_zero
    | top =>
      have : mx = ⊤ := top_le_iff.1 h
      subst this
      exact EReal.bot_ne_zero
    | coe a =>
      induction mx with
      | bot => exact absurd h (by simp)
      | top => exact EReal.top_ne_zero
      | coe b =>
        have hab : a ≤ b := EReal.coe_le_coe_iff.1 h
        rw [← EReal.coe_sub, ← EReal.coe_add]
        exact fun q => absurd (EReal.coe_eq_zero.1 q) (by linarith)

/-- Multiplying by the reciprocal is dividing, off zero. -/
theorem mul_recip (a d : EReal) (hd : d ≠ 0) : a * Ideal.div 1 d = Ideal.div a d := by
  unfold Ideal.div
  rw [if_neg hd, if_neg hd, one_mul]

/-- A bias added to each of twenty-six terms. -/
theorem sum_bias (g : Fin 26 → EReal) (b : EReal) : ∑ f, (g f + b) = ∑ f, g f + 26 * b := by
  rw [Finset.sum_add_distrib, Finset.sum_const, Finset.card_univ, Fintype.card_fin, EReal.nsmul_eq_mul]
  rfl

/-- A product of finite values is finite, and so is a sum of finite values. -/
theorem sum_mul_finite {n : ℕ} (u v : Fin n → EReal) (hu : ∀ k, u k ≠ ⊤ ∧ u k ≠ ⊥) (hv : ∀ k, v k ≠ ⊤ ∧ v k ≠ ⊥) :
    (∑ k, u k * v k) ≠ ⊤ ∧ (∑ k, u k * v k) ≠ ⊥ := by
  have e : ∀ k, u k * v k = (((u k).toReal * (v k).toReal : ℝ) : EReal) := fun k => by
    rw [EReal.coe_mul, EReal.coe_toReal (hu k).1 (hu k).2, EReal.coe_toReal (hv k).1 (hv k).2]
  rw [Finset.sum_congr rfl fun k _ => e k, ← coe_sum]
  exact ⟨EReal.coe_ne_top _, EReal.coe_ne_bot _⟩

end Cert.Value

end
-- ==== Proof.Ideal.Host.lean ====
/-
  What the host operations before the regions leave in the buffers that the second region reads: the extended edges,
  the table of steps, and twenty-six times the bias.
-/
module

public import proofs.«01_k».proof.Proof.Ideal.Run
public import proofs.«01_k».proof.Proof.Value.Math
public import Idealize.ShloMosaic.Lib.StableHlo.Run
public import Idealize.ShloMosaic.Lib.Pointwise
public import Idealize.ShloMosaic.Lib.Routing.OpsSet
public import Idealize.ShloMosaic.Lib.StableHlo.Predicate

@[expose] public section

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! ## The operations' composed terms -/

section Terms

variable {F : FTy → Type} [FloatOps F]

/-- The logits less their greatest, exponentiated. -/
def expo (l : FVec F S256 .f32) : FVec F S256 .f32 :=
  Host.exp (subf l (broadcastInDim S256 ![0] bcast_S1_S256_0 (broadcastInDim S1 ![] bcast_S_S1
    (maximumf (constant S_ .f32 0xFF800000#32)
      (Host.reduce FloatOps.maximumf l (constant S_ .f32 0xFF800000#32) reducesTo_S256_S_d0 h_S_)))))

/-- The shares of the buckets: the softmax of the logits. -/
def share (l : FVec F S256 .f32) : FVec F S256 .f32 :=
  Host.divf (expo l) (broadcastInDim S256 ![0] bcast_S1_S256_0 (broadcastInDim S1 ![] bcast_S_S1
    (Host.reduceAdd (expo l) (constant S_ .f32 0x00000000#32) reducesTo_S256_S_d0 h_S_)))

/-- The upper edges of the buckets: the running sums of the shares. -/
def edges (l : FVec F S256 .f32) : FVec F S256 .f32 :=
  Host.reduceWindowAdd ![256] ![1] ![255] ![0] (share l) (broadcastInDim S_ ![] bcast_S_S_ (constant S_ .f32 0x00000000#32))
    reduceWindows_S256_S256_w256s1p255_0 h_S_

/-- The edges with the last one moved to plus infinity, as a row. -/
def edgesRow (e : FVec F S256 .f32) : FVec F S1x256 .f32 :=
  shapeCast S1x256 (Host.scatter scatter_S256_S1_S__n_0_0_0 (fun _ b => b) e
    (broadcastInDim S1 ![] bcast_S_S1 (constantI S_ 32 255#32)) (constant S_ .f32 0x7F800000#32)) shapeCasts_S256_S1x256

/-- The embedding table carried through the linear layer. -/
def table (E : FVec F S256x16 .f32) (W : FVec F S16x16 .f32) : FVec F S256x16 .f32 :=
  Host.dotGeneral dot_S256x16_S16x16_S256x16_1_0_0_1_n_n none E (transpose S16x16 [1, 0] W transposes_S16x16_S16x16_1_0)

/-- The steps from each row of that table to the next, the last row itself. -/
def stepTable (T : FVec F S256x16 .f32) : FVec F S256x16 .f32 :=
  concatenate S256x16 0 [⟨S255x16, subf (extractStridedSlice S255x16 ![0, 0] T slices_S256x16_S255x16_0_0)
      (extractStridedSlice S255x16 ![1, 0] T slices_S256x16_S255x16_1_0)⟩,
    ⟨S1x16, extractStridedSlice S1x16 ![255, 0] T slices_S256x16_S1x16_255_0⟩] concatenates_S255x16_S1x16_S256x16_d0

/-- Twenty-six times the bias, as a row. -/
def biasRow (b : FVec F S16 .f32) : FVec F S1x16 .f32 :=
  shapeCast S1x16 (mulf (broadcastInDim S16 ![] bcast_S_S16 (constant S_ .f32 0x41D00000#32)) b) shapeCasts_S16_S1x16

variable (m : (ℓ : Loc nD τ sig) → Buf (Elt F) ℓ) (c : Dev nD)

theorem V1_v9 : V1 m c main_v9 = share (m ((c : Thread nD τ).loc main_arg1)) := by
  unfold V1
  after_results_simp <;> rfl

theorem V2_v10 : V2 m c main_v10 = edges (m ((c : Thread nD τ).loc main_arg1)) := by
  refine Eq.trans ?_ (congrArg (fun p => Host.reduceWindowAdd ![256] ![1] ![255] ![0] p
    (broadcastInDim S_ ![] bcast_S_S_ (constant S_ .f32 0x00000000#32)) reduceWindows_S256_S256_w256s1p255_0 h_S_) (V1_v9 m c))
  unfold V2
  generalize V1 m c = V
  simp only [hostOps0_1, TRef.binary, TRef.nullary, TRef.ternary, TRef.unary, TRef.toBuf, TRef.ofBuf, cast_eq]
  after_results_simp <;> rfl

theorem V2_arg2 : V2 m c main_arg2 = m ((c : Thread nD τ).loc main_arg2) :=
  (V2_of m c main_arg2 (by decide)).trans <| (V1_of m c main_arg2 (by decide)).trans rfl
theorem V2_arg3 : V2 m c main_arg3 = m ((c : Thread nD τ).loc main_arg3) :=
  (V2_of m c main_arg3 (by decide)).trans <| (V1_of m c main_arg3 (by decide)).trans rfl
theorem V2_arg4 : V2 m c main_arg4 = m ((c : Thread nD τ).loc main_arg4) :=
  (V2_of m c main_arg4 (by decide)).trans <| (V1_of m c main_arg4 (by decide)).trans rfl

theorem V3_v13 : V3 m c main_v13 = edgesRow (edges (m ((c : Thread nD τ).loc main_arg1))) := by
  rw [← V2_v10 m c]
  unfold V3
  generalize V2 m c = V
  after_results_simp <;> rfl

theorem V3_v20 : V3 m c main_v20 = stepTable (table (m ((c : Thread nD τ).loc main_arg2)) (m ((c : Thread nD τ).loc main_arg3))) := by
  rw [← V2_arg2 m c, ← V2_arg3 m c]
  unfold V3
  generalize V2 m c = V
  after_results <;> rfl

theorem V3_v23 : V3 m c main_v23 = biasRow (m ((c : Thread nD τ).loc main_arg4)) := by
  rw [← V2_arg4 m c]
  unfold V3
  generalize V2 m c = V
  after_results_simp <;> rfl

end Terms

end Cert.KernelIdeal.Hand

end
-- ==== Proof.Ideal.HostAt.lean ====
/-
  The host operations' terms read at an index, over the extended reals.
-/
module

public import proofs.«01_k».proof.Proof.Ideal.Host
public import Idealize.ShloMosaic.Lib.Routing.Ops
public import Idealize.ShloMosaic.Lib.Routing.OpsOne

@[expose] public section

set_option maxRecDepth 16384

noncomputable section

namespace Cert.KernelIdeal.Hand

open Cert.KernelIdeal Cert.KernelIdeal.Gen
open Idealize.ShloMosaic Idealize.ShloMosaic.TcCoe Idealize.SL.Sem

/-- Adding up a list from the left. -/
theorem foldl_add {ι : Type} (L : List ι) (v : EReal) (f : ι → EReal) : L.foldl (fun r n => r + f n) v = v + (L.map f).sum := by
  induction L generalizing v with
  | nil => simp
  | cons n L ih => rw [List.foldl_cons, ih, List.map_cons, List.sum_cons, add_assoc]

/-- A sum over a window that ends at `j` is the sum of the entries up to and including `j`. -/
theorem sum_window (p : Fin 256 → EReal) (j : Fin 256) :
    ∑ n : Fin 256, (if h : 255 ≤ j.val + n.val then p ⟨j.val + n.val - 255, by omega⟩ else 0) = Value.running p j := by
  have e : ∀ n : Fin 256, (if h : 255 ≤ j.val + n.val then p ⟨j.val + n.val - 255, by omega⟩ else 0)
      = if 255 ≤ j.val + n.val then p ⟨(j.val + n.val - 255) % 256, Nat.mod_lt _ (by omega)⟩ else 0 := fun n => by
    by_cases h : 255 ≤ j.val + n.val
    · rw [dif_pos h, if_pos h]
      exact congrArg p (Fin.ext (Nat.mod_eq_of_lt (by omega)).symm)
    · rw [dif_neg h, if_neg h]
  unfold Value.running
  rw [Finset.sum_congr rfl fun n _ => e n, ← Finset.sum_filter, ← Finset.sum_filter]
  have hj := j.isLt
  refine Finset.sum_bij' (fun n _ => ⟨(j.val + n.val - 255) % 256, Nat.mod_lt _ (by omega)⟩)
    (fun i _ => ⟨(i.val + 255 - j.val) % 256, Nat.mod_lt _ (by omega)⟩) ?_ ?_ ?_ ?_ ?_
  · intro n hn
    have hn1 := n.isLt
    have h := (Finset.mem_filter.1 hn).2
    refine Finset.mem_filter.2 ⟨Finset.mem_univ _, ?_⟩
    show (j.val + n.val - 255) % 256 ≤ j.val
    omega
  · intro i hi
    have hi1 := i.isLt
    have h : i.val ≤ j.val := (Finset.mem_filter.1 hi).2
    refine Finset.mem_filter.2 ⟨Finset.mem_univ _, ?_⟩
    show 255 ≤ j.val + (i.val + 255 - j.val) % 256
    omega
  · intro n hn
    have hn1 := n.isLt
    have h := (Finset.mem_filter.1 hn).2
    refine Fin.ext ?_
    show ((j.val + n.val - 255) % 256 + 255 - j.val) % 256 = n.val
    omega
  · intro i hi
    have hi1 := i.isLt
    have h : i.val ≤ j.val := (Finset.mem_filter.1 hi).2
    refine Fin.ext ?_
    show (j.val + (i.val + 255 - j.val) % 256 - 255) % 256 = i.val
    omega
  · intro n hn
    rfl

/-- Entry `j` of the running sums is the sum of the entries up to and including `j`. -/
theorem cumsum_at (p : FVec Ideal S256 .f32) (j : Fin 256) :
    Host.reduceWindowAdd (F := Ideal) ![256] ![1] ![255] ![0] p (broadcastInDim S_ ![] bcast_S_S_ (constant S_ .f32 0x00000000#32))
      reduceWindows_S256_S256_w256s1p255_0 h_S_ (ix1 j) = Value.running (fun i => p (ix1 i)) j := by
  have hz : (broadcastInDim S_ ![] bcast_S_S_ (constant (F := Ideal) S_ .f32 0x00000000#32)) (Shape.Idx.first h_S_) = (0 : EReal) := by
    pointwise
  unfold Host.reduceWindowAdd
  rw [Ideal.hostReduceWindowAdd_def]
  unfold Ideal.hostReduceWindowAdd Host.reduceWindow
  rw [hz]
  dsimp only
  refine (foldl_add _ _ _).trans ?_
  rw [zero_add, ← Fin.sum_univ_def, ← sum_window]
  have hj := j.isLt
  refine Fintype.sum_equiv (finCongr (Routing.numel1 256)) _ _ fun n => ?_
  have hw : ((⟨1, ![256]⟩ : Shape).rowMajor.symm n 0).val = n.val := by rw [Routing.symm1]; rfl
  have hn : n.val < 256 := (n.cast (Routing.numel1 256)).isLt
  by_cases h : 255 ≤ j.val + n.val
  · rw [dif_pos (show 255 ≤ j.val + (finCongr (Routing.numel1 256) n).val from h), dif_pos]
    · refine congrArg p (funext fun a => Fin.ext ?_)
      match a with
      | ⟨0, _⟩ =>
        show j.val * 1 + ((⟨1, ![256]⟩ : Shape).rowMajor.symm n 0).val - 255 = j.val + n.val - 255
        rw [hw, Nat.mul_one]
    · intro a
      match a with
      | ⟨0, _⟩ =>
        show 255 ≤ j.val * 1 + ((⟨1, ![256]⟩ : Shape).rowMajor.symm n 0).val
          ∧ j.val * 1 + ((⟨1, ![256]⟩ : Shape).rowMajor.symm n 0).val - 255 < 256
        rw [hw]
        omega
  · rw [dif_neg (show ¬ 255 ≤ j.val + (finCongr (Routing.numel1 256) n).val from h), dif_neg]
    intro hin
    have h0 : 255 ≤ j.val * 1 + ((⟨1, ![256]⟩ : Shape).rowMajor.symm n 0).val := (hin 0).1
    rw [hw] at h0
    omega

/-- The exponentials are not negative. -/
theorem expo_nonneg (l : FVec Ideal S256 .f32) (i : Fin 256) : (0 : EReal) ≤ expo (F := Ideal) l (ix1 i) := Value.exp_nonneg _

/-- A share is an exponential over the sum of them all. -/
theorem share_at (l : FVec Ideal S256 .f32) (i : Fin 256) :
    share (F := Ideal) l (ix1 i) = Ideal.div (expo l (ix1 i)) (∑ k : Fin 256, expo l (ix1 k)) := by
  pointwise [share]

/-- The edges do not decrease. -/
theorem edges_mono (l : FVec Ideal S256 .f32) : Monotone fun k : Fin 256 => (edges (F := Ideal) l (ix1 k) : EReal) := by
  have e : (fun k : Fin 256 => (edges (F := Ideal) l (ix1 k) : EReal)) = Value.running (fun i => share l (ix1 i)) :=
    funext fun k => cumsum_at _ k
  rw [e]
  refine Value.running_mono _ ?_
  have := Value.shares (fun i => expo (F := Ideal) l (ix1 i)) (expo_nonneg l)
  rcases this with h | h
  · exact Or.inl fun i => by rw [share_at]; exact h i
  · exact Or.inr fun i => by rw [share_at]; exact h i

theorem ofBits_inf : Ideal.ofBits .f32 0x7F800000#32 = (⊤ : EReal) := by simp [Ideal.ofBits, Ideal.ieee]
theorem ofBits_neg_inf : Ideal.ofBits .f32 0xFF800000#32 = (⊥ : EReal) := by simp [Ideal.ofBits, Ideal.ieee]
theorem ofBits_26 : Ideal.ofBits .f32 0x41D00000#32 = (26 : EReal) := by
  simp [Ideal.ofBits, Ideal.ieee, -EReal.coe_mul]; norm_num; rfl

/-- The row of edges: the last one is plus infinity. -/
theorem edgesRow_at (e : FVec Ideal S256 .f32) (k : Fin 256) :
    edgesRow (F := Ideal) e (ix2 0 k) = if k = 255 then (⊤ : EReal) else e (ix1 k) := by
  pointwise [edgesRow]
  have hidx : ((broadcastInDim S1 ![] bcast_S_S1 (constantI S_ 32 255#32)) (ix1 0)).toInt = ((255 : Fin 256).val : Int) := by
    pointwise
    rfl
  have hl := Routing.lands_one (N := 256) scatter_S256_S1_S__n_0_0_0 rfl rfl _ 255 hidx k
  by_cases hk : k = 255
  · rw [if_pos hk]
    refine (Routing.scatter_set_hit _ _ _ _ _ (⊤ : EReal) (fun u _ => ?_) ix0 (hl.2 hk))
    exact ofBits_inf
  · rw [if_neg hk]
    exact Routing.scatter_set_miss _ _ _ _ _ fun u hu => hk (hl.1 (by rw [← ValueIdx.eq_ix0 u]; exact hu))

/-- The table at an entry. -/
theorem table_at (E : FVec Ideal S256x16 .f32) (W : FVec Ideal S16x16 .f32) (k : Fin 256) (d : Fin 16) :
    table (F := Ideal) E W (ix2 k d) = ∑ j : Fin 16, (E (ix2 k j) : EReal) * (W (ix2 d j) : EReal) := by
  pointwise [table]

/-- The steps at an entry. -/
theorem stepTable_at (T : FVec Ideal S256x16 .f32) (k : Fin 256) (d : Fin 16) :
    stepTable (F := Ideal) T (ix2 k d) = Value.steps (fun k => T (ix2 k d)) k := by
  pointwise [stepTable, Value.steps]
  by_cases h : k.val < 255
  · rw [dif_pos h, dif_pos h]
    exact congrArg (fun z => (T (ix2 k d) : EReal) - T (ix2 z d)) (Fin.ext (Nat.add_comm _ _))
  · rw [dif_neg h, dif_neg h]
    exact congrArg (fun z => T (ix2 z d)) (Fin.ext (show 255 + (k.val - 255) = 255 by omega))

theorem biasRow_at (b : FVec Ideal S16 .f32) (d : Fin 16) : biasRow (F := Ideal) b (ix2 0 d) = (26 : EReal) * (b (ix1 d) : EReal) := by
  pointwise [biasRow]
  rw [ofBits_26]

end Cert.KernelIdeal.Hand

end
-- ==== Proof.Ideal.Bounds.lean ====
/-
  The first kernel's two results: the least and the greatest value of each column of the table.
-/
module

public import proofs.«01_k».proof.Proof.Ideal.HostAt
public import proofs.«01_k».proof.Proof.Ideal.Run
import Idealize.ShloMosaic.Lib.Pointwise
import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Window)

/-- The least value of column `f`. -/
def least (x : FVec Ideal S200000x26 .f32) (f : Fin 26) : EReal := Finset.univ.fold min ⊤ fun r : Fin 200000 => x (ix2 r f)

/-- The greatest one. -/
def greatest (x : FVec Ideal S200000x26 .f32) (f : Fin 26) : EReal := Finset.univ.fold max ⊥ fun r : Fin 200000 => x (ix2 r f)

theorem least_le (x : FVec Ideal S200000x26 .f32) (f : Fin 26) (r : Fin 200000) : least x f ≤ x (ix2 r f) :=
  ((Finset.le_fold_min _).mp (le_refl (least x f))).2 r (Finset.mem_univ _)

theorem le_greatest (x : FVec Ideal S200000x26 .f32) (f : Fin 26) (r : Fin 200000) : x (ix2 r f) ≤ greatest x f :=
  ((Finset.fold_max_le _).mp (le_refl (greatest x f))).2 r (Finset.mem_univ _)

theorem least_le_greatest (x : FVec Ideal S200000x26 .f32) (f : Fin 26) : least x f ≤ greatest x f :=
  (least_le x f 0).trans (le_greatest x f 0)

theorem pay3_at (v : Vec Ideal S2000x26 .f32) (f : Fin 26) :
    k0_pay3 v (ix2 0 f) = Finset.univ.fold min ⊤ fun r : Fin 2000 => v (ix2 r f) := by
  pointwise [k0_pay3, k0_pay1]
  rw [ofBits_inf]

theorem pay4_at (v : Vec Ideal S2000x26 .f32) (f : Fin 26) :
    k0_pay4 v (ix2 0 f) = Finset.univ.fold max ⊥ fun r : Fin 2000 => v (ix2 r f) := by
  pointwise [k0_pay4, k0_pay2]
  rw [ofBits_neg_inf]

theorem pay5_at (v : Vec Ideal S2000x26 .f32) (p : Vec Ideal S1x26 .f32) (f : Fin 26) :
    k0_pay5 v p (ix2 0 f) = min (p (ix2 0 f)) (Finset.univ.fold min ⊤ fun r : Fin 2000 => v (ix2 r f)) := by
  pointwise [k0_pay5, k0_pay1]
  rw [ofBits_inf]

theorem pay6_at (v : Vec Ideal S2000x26 .f32) (p : Vec Ideal S1x26 .f32) (f : Fin 26) :
    k0_pay6 v p (ix2 0 f) = max (p (ix2 0 f)) (Finset.univ.fold max ⊥ fun r : Fin 2000 => v (ix2 r f)) := by
  pointwise [k0_pay6, k0_pay2]
  rw [ofBits_neg_inf]

variable (V : (c : Dev nD) → (b : Ref sig .tc) → Buf (Elt Ideal) ((c.tc : Thread nD τ).loc b))

theorem idx0 : ∀ t : Fin cfg0.N, win0_0.index t = ![t.val, 0] := (by decide +kernel : ∀ t : Fin grid0.N, _)

/-- The whole table the first kernel reads. -/
abbrev whole (c : Dev nD) : FVec Ideal S200000x26 .f32 := V c main_arg0

theorem rows_at (c : Dev nD) (t : Fin cfg0.N) (r : Fin 2000) (f : Fin 26) (h : t.val * 2000 + r.val < 200000) :
    rows V c t (ix2 r f) = whole V c (ix2 ⟨t.val * 2000 + r.val, h⟩ f) := by
  blk_point [rows, idx0 t]

theorem le_rows (c : Dev nD) (t : Fin cfg0.N) (f : Fin 26) (z : EReal) :
    (z ≤ Finset.univ.fold min ⊤ fun r : Fin 2000 => rows V c t (ix2 r f))
      ↔ ∀ i : Fin 200000, t.val * 2000 ≤ i.val → i.val < t.val * 2000 + 2000 → z ≤ whole V c (ix2 i f) := by
  have ht : t.val < 100 := lt_of_lt_of_eq t.isLt N_0
  rw [Finset.le_fold_min]
  constructor
  · rintro ⟨-, h⟩ i h1 h2
    have := h ⟨i.val - t.val * 2000, by omega⟩ (Finset.mem_univ _)
    rw [rows_at V c t _ f (by have := i.isLt; simp only []; omega)] at this
    refine this.trans (le_of_eq (congrArg (fun k => whole V c (ix2 k f)) (Fin.ext ?_)))
    show t.val * 2000 + (i.val - t.val * 2000) = i.val
    omega
  · intro h
    refine ⟨le_top, fun r _ => ?_⟩
    have hr := r.isLt
    rw [rows_at V c t r f (by omega)]
    exact h _ (Nat.le_add_right _ _) (by show t.val * 2000 + r.val < _; omega)

theorem rows_le (c : Dev nD) (t : Fin cfg0.N) (f : Fin 26) (z : EReal) :
    ((Finset.univ.fold max ⊥ fun r : Fin 2000 => rows V c t (ix2 r f)) ≤ z)
      ↔ ∀ i : Fin 200000, t.val * 2000 ≤ i.val → i.val < t.val * 2000 + 2000 → whole V c (ix2 i f) ≤ z := by
  have ht : t.val < 100 := lt_of_lt_of_eq t.isLt N_0
  rw [Finset.fold_max_le]
  constructor
  · rintro ⟨-, h⟩ i h1 h2
    have := h ⟨i.val - t.val * 2000, by omega⟩ (Finset.mem_univ _)
    rw [rows_at V c t _ f (by have := i.isLt; simp only []; omega)] at this
    refine (le_of_eq (congrArg (fun k => whole V c (ix2 k f)) (Fin.ext ?_))).trans this
    show i.val = t.val * 2000 + (i.val - t.val * 2000)
    omega
  · intro h
    refine ⟨bot_le, fun r _ => ?_⟩
    have hr := r.isLt
    rw [rows_at V c t r f (by omega)]
    exact h _ (Nat.le_add_right _ _) (by show t.val * 2000 + r.val < _; omega)

/-- What the kernel has joined after block `n` bounds the rows read so far, and is the best such bound. -/
theorem le_low (c : Dev nD) (f : Fin 26) (z : EReal) : ∀ (n : ℕ) (h : n < cfg0.N),
    z ≤ low V c n h (ix2 0 f) ↔ ∀ i : Fin 200000, i.val < n * 2000 + 2000 → z ≤ whole V c (ix2 i f)
  | 0, h => by
    rw [low, pay3_at, le_rows]
    exact forall_congr' fun i => ⟨fun k a => k (by show 0 * 2000 ≤ _; omega) a, fun k _ a => k a⟩
  | n + 1, h => by
    rw [low, pay5_at, le_min_iff, le_low c f z n, le_rows]
    constructor
    · rintro ⟨k1, k2⟩ i hi
      by_cases a : i.val < n * 2000 + 2000
      · exact k1 i a
      · exact k2 i (by show (n + 1) * 2000 ≤ _; omega) hi
    · exact fun k => ⟨fun i a => k i (by omega), fun i _ a => k i a⟩

theorem high_le (c : Dev nD) (f : Fin 26) (z : EReal) : ∀ (n : ℕ) (h : n < cfg0.N),
    high V c n h (ix2 0 f) ≤ z ↔ ∀ i : Fin 200000, i.val < n * 2000 + 2000 → whole V c (ix2 i f) ≤ z
  | 0, h => by
    rw [high, pay4_at, rows_le]
    exact forall_congr' fun i => ⟨fun k a => k (by show 0 * 2000 ≤ _; omega) a, fun k _ a => k a⟩
  | n + 1, h => by
    rw [high, pay6_at, max_le_iff, high_le c f z n, rows_le]
    constructor
    · rintro ⟨k1, k2⟩ i hi
      by_cases a : i.val < n * 2000 + 2000
      · exact k1 i a
      · exact k2 i (by show (n + 1) * 2000 ≤ _; omega) hi
    · exact fun k => ⟨fun i a => k i (by omega), fun i _ a => k i a⟩

theorem low_last (c : Dev nD) (t : Fin cfg0.N) (ht : t.val = 99) (f : Fin 26) :
    low V c t.val t.isLt (ix2 0 f) = least (whole V c) f := by
  refine eq_of_forall_le_iff fun z => ?_
  rw [le_low, least, Finset.le_fold_min]
  exact ⟨fun k => ⟨le_top, fun i _ => k i (by have := i.isLt; omega)⟩, fun k i _ => k.2 i (Finset.mem_univ _)⟩

theorem high_last (c : Dev nD) (t : Fin cfg0.N) (ht : t.val = 99) (f : Fin 26) :
    high V c t.val t.isLt (ix2 0 f) = greatest (whole V c) f := by
  refine eq_of_forall_ge_iff fun z => ?_
  rw [high_le, greatest, Finset.fold_max_le]
  exact ⟨fun k => ⟨bot_le, fun i _ => k i (by have := i.isLt; omega)⟩, fun k i _ => k.2 i (Finset.mem_univ _)⟩

theorem idx12 : ∀ t : Fin cfg0.N, win0_1.index t = ![0, 0] ∧ win0_2.index t = ![0, 0] :=
  (by decide +kernel : ∀ t : Fin grid0.N, _)

theorem final_low (c : Dev nD) : (dat0 V c).arrAt 1 cfg0.N = fun j => least (whole V c) (j 1) := by
  refine (dat0 V c).arrAt_eq_of_covers 1 _ (by decide +kernel) fun t hf y => ?_
  blk_simp
  have ht : t.val = 99 := by have := (flush0_1 t).mp hf; have : t.val < 100 := lt_of_lt_of_eq t.isLt N_0; omega
  rw [dat0_after1]
  refine Eq.trans ?_ (low_last V c t ht _)
  blk_ext [idx12 t]

theorem final_high (c : Dev nD) : (dat0 V c).arrAt 2 cfg0.N = fun j => greatest (whole V c) (j 1) := by
  refine (dat0 V c).arrAt_eq_of_covers 2 _ (by decide +kernel) fun t hf y => ?_
  blk_simp
  have ht : t.val = 99 := by have := (flush0_2 t).mp hf; have : t.val < 100 := lt_of_lt_of_eq t.isLt N_0; omega
  rw [dat0_after2]
  refine Eq.trans ?_ (high_last V c t ht _)
  blk_ext [idx12 t]

/-! ## What the second kernel finds -/

variable (m : (ℓ : Loc nD τ sig) → Buf (Elt Ideal) ℓ)

theorem V4_low (c : Dev nD) : V4' m c main_v24_0 = fun j => least (m ((c.tc : Thread nD τ).loc main_arg0)) (j 1) := by
  refine (Pipeline.afterRegion_arr (dat0 (B3 m) c) (V3 m c) launch0.win.arr_inj 1).trans ((final_low (B3 m) c).trans ?_)
  rw [show whole (B3 m) c = m ((c.tc : Thread nD τ).loc main_arg0) from V3_arg0 m c]

theorem V4_high (c : Dev nD) : V4' m c main_v24_1 = fun j => greatest (m ((c.tc : Thread nD τ).loc main_arg0)) (j 1) := by
  refine (Pipeline.afterRegion_arr (dat0 (B3 m) c) (V3 m c) launch0.win.arr_inj 2).trans ((final_high (B3 m) c).trans ?_)
  rw [show whole (B3 m) c = m ((c.tc : Thread nD τ).loc main_arg0) from V3_arg0 m c]

end Cert.KernelIdeal.Hand
-- ==== Proof.Ideal.Score.lean ====
/-
  The second kernel's result at an index.
-/
module

public import proofs.«01_k».proof.Proof.Ideal.Bounds
public import proofs.«01_k».proof.Proof.Value.Math
import Idealize.ShloMosaic.Lib.Pointwise
import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Window)

theorem pay2_at (mn mx : Vec Ideal S1x26 .f32) (x : Vec Ideal S1000x26 .f32) (r : Fin 1000) (f : Fin 26) :
    k1_pay2 mn mx x (ix2 r f) = (x (ix2 r f) - mn (ix2 0 f)) * Ideal.div 1 (mx (ix2 0 f) - mn (ix2 0 f) + Ideal.ofBits .f32 0x358637BD#32) := by
  pointwise [k1_pay2]

theorem indicator (p : Prop) [Decidable p] :
    (FloatOps.sitofp (F := Ideal) FTy.f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    rw [show (BitVec.setWidth 32 (BitVec.ofBool true)).toInt = 1 by decide]; simp
  · rw [if_neg h, decide_eq_false h]
    show (((BitVec.setWidth 32 (BitVec.ofBool false)).toInt : ℝ) : EReal) = 0
    rw [show (BitVec.setWidth 32 (BitVec.ofBool false)).toInt = 0 by decide]; simp

theorem sum26 (g : Fin 26 → EReal) : ∑ f, g f
    = g 0 + g 1 + g 2 + g 3 + g 4 + g 5 + g 6 + g 7 + g 8 + g 9 + g 10 + g 11 + g 12 + g 13 + g 14 + g 15 + g 16 + g 17 + g 18
      + g 19 + g 20 + g 21 + g 22 + g 23 + g 24 + g 25 := by
  simp only [Fin.sum_univ_castSucc, Finset.univ_eq_empty, Finset.sum_empty, zero_add]
  rfl

/-- What column `f` adds to a result: the steps of the table at the edges not below the value. -/
def lane (z : EReal) (e : Vec Ideal S1x256 .f32) (t : Vec Ideal S256x16 .f32) (d : Fin 16) : EReal :=
  ∑ k : Fin 256, (if z ≤ e (ix2 0 k) then (1 : EReal) else 0) * t (ix2 k d)

theorem score_at (x : Vec Ideal S1000x26 .f32) (mn mx : Vec Ideal S1x26 .f32) (e : Vec Ideal S1x256 .f32) (t : Vec Ideal S256x16 .f32)
    (b : Vec Ideal S1x16 .f32) (r : Fin 1000) (d : Fin 16) :
    score x mn mx e t b (ix2 r d) = ∑ f : Fin 26, lane (k1_pay2 mn mx x (ix2 r f)) e t d + b (ix2 0 d) := by
  rw [sum26]
  pointwise [score, k1_pay1, k1_pay3, k1_pay4, k1_pay5, k1_pay6, k1_pay7, k1_pay8, k1_pay9, k1_pay10, k1_pay11, k1_pay12, k1_pay13]
  simp only [indicator]
  rfl

/-- The small positive number the span is widened by. -/
abbrev eps : EReal := Ideal.ofBits .f32 0x358637BD#32

/-- The result of the second kernel, from the arrays its windows read. -/
def scores (x : Vec Ideal S200000x26 .f32) (mn mx : Vec Ideal S1x26 .f32) (e : Vec Ideal S1x256 .f32) (t : Vec Ideal S256x16 .f32)
    (b : Vec Ideal S1x16 .f32) : Vec Ideal S200000x16 .f32 := fun j =>
  ∑ f : Fin 26, lane ((x (ix2 (j 0) f) - mn (ix2 0 f)) * Ideal.div 1 (mx (ix2 0 f) - mn (ix2 0 f) + eps)) e t (j 1) + b (ix2 0 (j 1))

variable (V : (c : Dev nD) → (b : Ref sig .tc) → Buf (Elt Ideal) ((c.tc : Thread nD τ).loc b))

theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![0, 0] ∧ win1_6.index t = ![t.val, 0] :=
  (by decide +kernel : ∀ t : Fin grid1.N, _)

theorem part1 (c : Dev nD) (t : Fin cfg1.N) : part V c 1 t = V c main_v24_0 := by
  funext y; blk_point [part, idx1 t]
theorem part2 (c : Dev nD) (t : Fin cfg1.N) : part V c 2 t = V c main_v24_1 := by
  funext y; blk_point [part, idx1 t]
theorem part3 (c : Dev nD) (t : Fin cfg1.N) : part V c 3 t = V c main_v13 := by
  funext y; blk_point [part, idx1 t]
theorem part4 (c : Dev nD) (t : Fin cfg1.N) : part V c 4 t = V c main_v20 := by
  funext y; blk_point [part, idx1 t]
theorem part5 (c : Dev nD) (t : Fin cfg1.N) : part V c 5 t = V c main_v23 := by
  funext y; blk_point [part, idx1 t]

theorem final_scores (c : Dev nD) : (dat1 V c).arrAt 6 cfg1.N
    = scores (V c main_arg0) (V c main_v24_0) (V c main_v24_1) (V c main_v13) (V c main_v20) (V c main_v23) := by
  refine (dat1 V c).arrAt_eq_of_covers 6 _ (by decide +kernel) fun t hf y => ?_
  blk_simp
  rw [dat1_after6, part1, part2, part3, part4, part5]
  have h0 : (y 0).val < 1000 := (y 0).isLt
  have h1 : (y 1).val < 16 := (y 1).isLt
  have hd : (win1_6.blk t).view.emb y 1 = (⟨(y 1).val, h1⟩ : Fin 16) := by
    apply Fin.ext
    blk_simp [idx1 t]
  have hx : ∀ f : Fin 26, (part V c 0 t : Vec Ideal S1000x26 .f32) (ix2 ⟨(y 0).val, h0⟩ f)
      = (V c main_arg0 : Vec Ideal S200000x26 .f32) (ix2 ((win1_6.blk t).view.emb y 0) f) := fun f => by
    blk_point [part, idx1 t]
  unfold scores
  rw [hd]
  refine Eq.trans (b := score (part V c 0 t) (V c main_v24_0) (V c main_v24_1) (V c main_v13) (V c main_v20) (V c main_v23)
    (ix2 ⟨(y 0).val, h0⟩ ⟨(y 1).val, h1⟩)) (by blk_ext) ?_
  rw [score_at]
  simp only [pay2_at, hx]

variable (m : (ℓ : Loc nD τ sig) → Buf (Elt Ideal) ℓ)

/-- The program's result. -/
theorem V5_result (c : Dev nD) : V5' m c main_v25
    = scores (m ((c.tc : Thread nD τ).loc main_arg0)) (fun j => least (m ((c.tc : Thread nD τ).loc main_arg0)) (j 1))
        (fun j => greatest (m ((c.tc : Thread nD τ).loc main_arg0)) (j 1))
        (edgesRow (F := Ideal) (edges (F := Ideal) (m ((c.tc : Thread nD τ).loc main_arg1))))
        (stepTable (F := Ideal) (table (F := Ideal) (m ((c.tc : Thread nD τ).loc main_arg2)) (m ((c.tc : Thread nD τ).loc main_arg3))))
        (biasRow (F := Ideal) (m ((c.tc : Thread nD τ).loc main_arg4))) := by
  refine (Pipeline.afterRegion_arr (dat1 (B4 m) c) (V4' m c) launch1.win.arr_inj 6).trans ((final_scores (B4 m) c).trans ?_)
  rw [show B4 m c main_arg0 = m ((c.tc : Thread nD τ).loc main_arg0) from
      (Pipeline.afterRegion_keeps _ _ launch0.win.arr_inj (fun w => dat0_A _ c w) main_arg0 (by decide)).trans (V3_arg0 m c),
    show B4 m c main_v24_0 = _ from V4_low m c, show B4 m c main_v24_1 = _ from V4_high m c,
    show B4 m c main_v13 = _ from
      (Pipeline.afterRegion_keeps _ _ launch0.win.arr_inj (fun w => dat0_A _ c w) main_v13 (by decide)).trans (V3_v13 m c),
    show B4 m c main_v20 = _ from
      (Pipeline.afterRegion_keeps _ _ launch0.win.arr_inj (fun w => dat0_A _ c w) main_v20 (by decide)).trans (V3_v20 m c),
    show B4 m c main_v23 = _ from
      (Pipeline.afterRegion_keeps _ _ launch0.win.arr_inj (fun w => dat0_A _ c w) main_v23 (by decide)).trans (V3_v23 m c)]
  rfl

end Cert.KernelIdeal.Hand
-- ==== Proof.Ideal.RefTerm.lean ====
/-
  The reference's composed term, step by step.
-/
module

public import proofs.«01_k».proof.Proof.Gen.ReferenceIdeal.Run
public import proofs.«01_k».proof.Proof.Ideal.Host

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

section Terms

variable {F : FTy → Type} [FloatOps F]

/-- The least value of each column. -/
def lowest (x : FVec F S200000x26 .f32) : FVec F S26 .f32 :=
  Host.reduce FloatOps.minimumf x (constant S_ .f32 0x7F800000#32) reducesTo_S200000x26_S26_d0 h_S_

/-- The greatest one. -/
def highest (x : FVec F S200000x26 .f32) : FVec F S26 .f32 :=
  Host.reduce FloatOps.maximumf x (constant S_ .f32 0xFF800000#32) reducesTo_S200000x26_S26_d0 h_S_

/-- A value for each column, spread over the rows. -/
def spread (v : FVec F S26 .f32) : FVec F S200000x26 .f32 :=
  broadcastInDim S200000x26 ![0, 1] bcast_S1x26_S200000x26_0_1 (broadcastInDim S1x26 ![1] bcast_S26_S1x26_1 v)

/-- The table with every column brought between zero and one. -/
def normal (x : FVec F S200000x26 .f32) : FVec F S200000x26 .f32 :=
  Host.divf (subf x (spread (lowest x)))
    (spread (addf (subf (highest x) (lowest x)) (broadcastInDim S26 ![] bcast_S_S26 (constant S_ .f32 0x358637BD#32))))

/-- The number of edges below each entry. -/
def rank (e : FVec F S256 .f32) (z : FVec F S200000x26 .f32) : IVec S200000x26 32 :=
  Host.reduce IntOp.addi
    (extui 32
      (cmpf .olt
        (broadcastInDim S200000x26x256 ![0, 1, 2] bcast_S1x1x256_S200000x26x256_0_1_2 (broadcastInDim S1x1x256 ![2] bcast_S256_S1x1x256_2 e))
        (broadcastInDim S200000x26x256 ![0, 1, 2] bcast_S200000x26x1_S200000x26x256_0_1_2
          (broadcastInDim S200000x26x1 ![0, 1] bcast_S200000x26_S200000x26x1_0_1 z)))
      natLt_1_32)
    (constantI S_ 32 0#32) reducesTo_S200000x26x256_S200000x26_d2 h_S_

/-- A number repeated over the table. -/
def fill (k : BitVec 32) : IVec S200000x26 32 := broadcastInDim S200000x26 ![] bcast_S_S200000x26 (constantI S_ 32 k)

/-- Brought between 0 and 255. -/
def clip (r : IVec S200000x26 32) : IVec S200000x26 32 := minsi (fill 255#32) (maxsi (fill 0#32) r)

/-- The row numbers for the look-up, a negative one counted from the end. -/
def slot (q : IVec S200000x26 32) : IVec S200000x26x1 32 :=
  broadcastInDim S200000x26x1 ![0, 1] bcast_S200000x26_S200000x26x1_0_1 (select (cmpi .slt q (fill 0#32)) (addi q (fill 256#32)) q)

/-- Which row numbers are rows of the table. -/
def good (s : IVec S200000x26x1 32) : IVec S200000x26 1 :=
  Host.reduce IntOp.andi
    (andi (cmpi .sge s (broadcastInDim S200000x26x1 ![] bcast_S_S200000x26x1 (constantI S_ 32 0#32)))
      (cmpi .sle s (broadcastInDim S200000x26x1 ![0, 1, 2] bcast_S1x1x1_S200000x26x1_0_1_2
        (broadcastInDim S1x1x1 ![2] bcast_S1_S1x1x1_2 (constantI S1 32 255#32)))))
    (constantI S_ 1 1#1) reducesTo_S200000x26x1_S200000x26_d2 h_S_

/-- The rows looked up. -/
def looked (E : FVec F S256x16 .f32) (s : IVec S200000x26x1 32) : FVec F S200000x26x16 .f32 :=
  select (broadcastInDim S200000x26x16 ![0, 1] bcast_S200000x26_S200000x26x16_0_1 (good s))
    (Host.gather gather_S256x16_S200000x26x1_S200000x26x16_2_0_n_n_0_2_116 E s)
    (broadcastInDim S200000x26x16 ![] bcast_S_S200000x26x16 (constant S_ .f32 0x7FC00000#32))

/-- The linear layer over what was looked up, added over the columns. -/
def layer (G : FVec F S200000x26x16 .f32) (W : FVec F S16x16 .f32) (b : FVec F S16 .f32) : FVec F S200000x16 .f32 :=
  Host.reduceAdd
    (addf (Host.dotGeneral dot_S200000x26x16_S16x16_S200000x26x16_2_0_01_1_n_n none G (transpose S16x16 [1, 0] W transposes_S16x16_S16x16_1_0))
      (broadcastInDim S200000x26x16 ![0, 1, 2] bcast_S1x1x16_S200000x26x16_0_1_2 (broadcastInDim S1x1x16 ![2] bcast_S16_S1x1x16_2 b)))
    (constant S_ .f32 0x00000000#32) reducesTo_S200000x26x16_S200000x16_d1 h_S_

variable (m : (ℓ : Loc nD τ sig) → Buf (Elt F) ℓ) (c : Dev nD)

theorem res_eq : Value.res_main_v36 m c
    = layer (looked (m ((c.tc : Thread nD τ).loc main_arg2))
        (slot (clip (rank (Cert.KernelIdeal.Hand.edges (F := F) (m ((c.tc : Thread nD τ).loc main_arg1))) (normal (m ((c.tc : Thread nD τ).loc main_arg0)))))))
      (m ((c.tc : Thread nD τ).loc main_arg3)) (m ((c.tc : Thread nD τ).loc main_arg4)) := by
  unfold Value.res_main_v36
  rfl

end Terms

end Cert.ReferenceIdeal.Hand
-- ==== Proof.Ideal.Reference.lean ====
/-
  The reference's composed term, read at an index, over the extended reals.
-/
module

public import proofs.«01_k».proof.Proof.Ideal.RefTerm
public import proofs.«01_k».proof.Proof.Ideal.Bounds
public import Idealize.ShloMosaic.Lib.IndicatorCount
import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.KernelIdeal.Hand (least greatest)

theorem lowest_at (x : FVec Ideal S200000x26 .f32) (f : Fin 26) : lowest x (ix1 f) = least x f := by
  pointwise [lowest]
  rw [Cert.KernelIdeal.Hand.ofBits_inf, least]

theorem highest_at (x : FVec Ideal S200000x26 .f32) (f : Fin 26) : highest x (ix1 f) = greatest x f := by
  pointwise [highest]
  rw [Cert.KernelIdeal.Hand.ofBits_neg_inf, greatest]

theorem spread_at (v : FVec Ideal S26 .f32) (n : Fin 200000) (f : Fin 26) : spread v (ix2 n f) = v (ix1 f) := by
  pointwise [spread]

theorem quotient_at (x y z : FVec Ideal S200000x26 .f32) (i : S200000x26.Idx) : Host.divf (subf x y) z i = Ideal.div (x i - y i) (z i) := rfl

theorem span_at (hi lo : FVec Ideal S26 .f32) (f : Fin 26) :
    addf (subf hi lo) (broadcastInDim S26 ![] bcast_S_S26 (constant S_ .f32 0x358637BD#32)) (ix1 f)
      = hi (ix1 f) - lo (ix1 f) + Ideal.ofBits .f32 0x358637BD#32 := by
  pointwise

theorem normal_at (x : FVec Ideal S200000x26 .f32) (n : Fin 200000) (f : Fin 26) :
    normal x (ix2 n f) = Ideal.div (x (ix2 n f) - least x f) (greatest x f - least x f + Ideal.ofBits .f32 0x358637BD#32) := by
  unfold normal
  rw [quotient_at, spread_at, spread_at, span_at, lowest_at, highest_at]

theorem rank_at (e : FVec Ideal S256 .f32) (z : FVec Ideal S200000x26 .f32) (n : Fin 200000) (f : Fin 26) :
    rank e z (ix2 n f) = BitVec.ofNat 32 (Cert.Value.below (fun k => e (ix1 k)) (z (ix2 n f))) := by
  pointwise [rank]
  refine (IndicatorCount.fold_addi_setWidth_eq_card (fun k : Fin 256 => BitVec.ofBool (decide (e (ix1 k) < z (ix2 n f)))) Finset.univ).trans ?_
  unfold Cert.Value.below
  simp only [StableHlo.Predicate.ofBool_eq_one_iff, decide_eq_true_eq]

/-- A count of at most 256 brought between 0 and 255. -/
theorem clip_word (k : ℕ) (h : k ≤ 256) : IntOp.minsi (255#32) (IntOp.maxsi (0#32) (BitVec.ofNat 32 k)) = BitVec.ofNat 32 (min k 255) := by
  have : ∀ k : Fin 257, IntOp.minsi (255#32) (IntOp.maxsi (0#32) (BitVec.ofNat 32 k.val)) = BitVec.ofNat 32 (min k.val 255) := by
    decide +kernel
  exact this ⟨k, by omega⟩

theorem clip_at (r : IVec S200000x26 32) (n : Fin 200000) (f : Fin 26) (k : ℕ) (hk : k ≤ 256) (h : r (ix2 n f) = BitVec.ofNat 32 k) :
    clip r (ix2 n f) = BitVec.ofNat 32 (min k 255) := by
  pointwise [clip, fill]
  rw [h, clip_word k hk]

theorem slot_at (q : IVec S200000x26 32) (n : Fin 200000) (f : Fin 26) (k : Fin 256) (h : q (ix2 n f) = BitVec.ofNat 32 k.val) :
    slot q (ix3 n f 0) = BitVec.ofNat 32 k.val := by
  pointwise [slot, fill]
  rw [h]
  have : ∀ k : Fin 256, Scalar.select (IntOp.cmpi CmpIPredicate.slt (BitVec.ofNat 32 k.val) 0#32) (IntOp.addi (BitVec.ofNat 32 k.val) 256#32)
      (BitVec.ofNat 32 k.val) = BitVec.ofNat 32 k.val := by decide +kernel
  exact this k

theorem good_at (s : IVec S200000x26x1 32) (n : Fin 200000) (f : Fin 26) (k : Fin 256) (h : s (ix3 n f 0) = BitVec.ofNat 32 k.val) :
    good s (ix2 n f) = 1#1 := by
  pointwise [good]
  rw [Finset.univ_unique, Finset.fold_singleton]
  rw [show s (ix3 n f default) = BitVec.ofNat 32 k.val from h]
  have : ∀ k : Fin 256, IntOp.andi (IntOp.andi (IntOp.cmpi CmpIPredicate.sge (BitVec.ofNat 32 k.val) 0#32)
      (IntOp.cmpi CmpIPredicate.sle (BitVec.ofNat 32 k.val) 255#32)) 1#1 = 1#1 := by decide +kernel
  exact this k

theorem gather_at (E : FVec Ideal S256x16 .f32) (s : IVec S200000x26x1 32) (n : Fin 200000) (f : Fin 26) (j : Fin 16) (k : Fin 256)
    (h : s (ix3 n f 0) = BitVec.ofNat 32 k.val) :
    Host.gather gather_S256x16_S200000x26x1_S200000x26x16_2_0_n_n_0_2_116 E s (ix3 n f j) = E (ix2 k j) := by
  generalize hg : gather_S256x16_S200000x26x1_S200000x26x16_2_0_n_n_0_2_116 = g
  have hs : g.siIdx (ix3 n f j) ⟨List.idxOf (0 : Fin 2) g.startIndexMap,
      List.idxOf_lt_length_iff.2 (by rw [← hg]; exact List.mem_singleton.mpr rfl)⟩ = ix3 n f 0 := by
    subst hg
    funext b; refine Fin.ext ?_
    match b with
    | ⟨0, _⟩ => rfl
    | ⟨1, _⟩ => rfl
    | ⟨2, _⟩ => rfl
  unfold Host.gather
  congr 1
  funext a
  refine Fin.ext ?_
  show g.start (ix3 n f j) s a + g.batchCoord (ix3 n f j) a + g.offCoord (ix3 n f j) a = _
  have hb : ∀ a, g.batchCoord (ix3 n f j) a = 0 := fun a => by
    subst hg; exact GatherDims.batchCoord_eq_zero _ _ _ List.not_mem_nil
  rw [hb, Nat.add_zero]
  match a with
  | ⟨0, _⟩ =>
    have ho : g.offCoord (ix3 n f j) 0 = 0 := by
      subst hg; exact GatherDims.offCoord_eq_zero _ _ _ (fun h => ((GatherDims.mem_sKept _ _).mp h).1 (List.mem_singleton.mpr rfl))
    have hst : g.start (ix3 n f j) s 0 = k.val := by
      unfold GatherDims.start
      rw [dif_pos (by rw [← hg]; exact List.mem_singleton.mpr rfl), hs, h]
      subst hg
      have : ∀ k : Fin 256, min (BitVec.ofNat 32 k.val).toInt.toNat 255 = k.val := by decide +kernel
      exact this k
    show g.start (ix3 n f j) s 0 + g.offCoord (ix3 n f j) 0 = _
    rw [ho, hst]; rfl
  | ⟨1, _⟩ =>
    have hst : g.start (ix3 n f j) s 1 = 0 := by
      subst hg
      unfold GatherDims.start
      rw [dif_neg (by decide)]
    show g.start (ix3 n f j) s 1 + g.offCoord (ix3 n f j) 1 = _
    rw [hst, Nat.zero_add]
    subst hg
    rfl

theorem looked_at (E : FVec Ideal S256x16 .f32) (s : IVec S200000x26x1 32) (n : Fin 200000) (f : Fin 26) (j : Fin 16) (k : Fin 256)
    (h : s (ix3 n f 0) = BitVec.ofNat 32 k.val) : looked E s (ix3 n f j) = E (ix2 k j) := by
  pointwise [looked]
  rw [good_at s n f k h, gather_at E s n f j k h]
  rfl

theorem layer_at (G : FVec Ideal S200000x26x16 .f32) (W : FVec Ideal S16x16 .f32) (b : FVec Ideal S16 .f32) (n : Fin 200000) (d : Fin 16) :
    layer G W b (ix2 n d) = ∑ f : Fin 26, (∑ j : Fin 16, G (ix3 n f j) * W (ix2 d j) + b (ix1 d)) := by
  pointwise [layer]

end Cert.ReferenceIdeal.Hand
-- ==== Proof.Ideal.Equal.lean ====
/-
  The kernel's result and the reference's are the same array.
-/
module

public import proofs.«01_k».proof.Pre_finite_tables
public import proofs.«01_k».proof.Proof.Ideal.Score
public import proofs.«01_k».proof.Proof.Ideal.Reference
public import Idealize.ShloMosaic.Lib.Affine
import Idealize.ShloMosaic.Lib.Pointwise

@[expose] public section

set_option maxRecDepth 16384

noncomputable section

/-! ## The precondition -/

namespace Cert.Pre_finite_tables

open Idealize.ShloMosaic Idealize.ShloMosaic.StableHlo

/-- The shape conditions the predicate states. -/
theorem facts : Facts where
  bcast_S_S256x16 := by decide
  reducesTo_S256x16_S_d0_1 := by decide
  h_S_ := by decide
  bcast_S_S16x16 := by decide
  reducesTo_S16x16_S_d0_1 := by decide

/-- An extended real whose greater of itself and its negative is below plus infinity is finite. -/
theorem finite_of_abs (z : EReal) (h : max z (-z) < ⊤) : z ≠ ⊤ ∧ z ≠ ⊥ := by
  constructor
  · rintro rfl
    exact absurd h (by simp)
  · rintro rfl
    exact absurd h (by simp)

/-- A conjunction of bits is one just where every bit is. -/
theorem fold_and {ι : Type} (S : Finset ι) (p : ι → BitVec 1) : S.fold IntOp.andi (1#1) p = 1#1 ↔ ∀ k ∈ S, p k = 1#1 := by
  classical
  induction S using Finset.induction_on with
  | empty => simp
  | insert a S ha ih => rw [Finset.fold_insert ha, IntOp.andi_eq_one, ih, Finset.forall_mem_insert]

variable [Facts]

/-- Where the predicate holds, both tables are finite throughout. -/
theorem tables_finite (x : FVec Ideal S200000x26 .f32) (l : FVec Ideal S256 .f32) (E : FVec Ideal S256x16 .f32) (W : FVec Ideal S16x16 .f32)
    (b : FVec Ideal S16 .f32) (h : fn x l E W b = fun _ => 1#1) :
    (∀ k d, E (ix2 k d) ≠ ⊤ ∧ E (ix2 k d) ≠ ⊥) ∧ (∀ k d, W (ix2 k d) ≠ ⊤ ∧ W (ix2 k d) ≠ ⊥) := by
  have h0 := congrFun h ix0
  pointwise [fn] at h0
  obtain ⟨hE, hW⟩ := IntOp.andi_eq_one.mp h0
  rw [fold_and] at hE hW
  simp only [StableHlo.Predicate.ofBool_eq_one_iff, decide_eq_true_eq, Cert.KernelIdeal.Hand.ofBits_inf] at hE hW
  exact ⟨fun k d => finite_of_abs _ (hE (k, d) (Finset.mem_univ _)), fun k d => finite_of_abs _ (hW (k, d) (Finset.mem_univ _))⟩

end Cert.Pre_finite_tables

namespace Cert.Equal

open Idealize.ShloMosaic Idealize.ShloMosaic.TcCoe Idealize.SL.Sem Idealize.ShloMosaic.StableHlo
open Cert.KernelIdeal (S200000x26 S256 S256x16 S16x16 S16 S200000x16)
open Cert.KernelIdeal.Hand Cert.ReferenceIdeal.Hand Cert.Value

/-- The small constant added to a column's width is positive. -/
theorem eps_pos : 0 < eps := by
  simp [eps, Ideal.ofBits, Ideal.ieee, -EReal.coe_mul]

/-- The small constant is finite. -/
theorem eps_ne_top : eps ≠ ⊤ := by
  simp [eps, Ideal.ofBits, Ideal.ieee, -EReal.coe_mul]

/-- What a column adds is an entry of the table carried through the linear layer. -/
theorem lane_eq (e : FVec Ideal S256 .f32) (he : Monotone fun k => e (ix1 k)) (E : FVec Ideal S256x16 .f32) (W : FVec Ideal S16x16 .f32)
    (hE : ∀ k d, E (ix2 k d) ≠ ⊤ ∧ E (ix2 k d) ≠ ⊥) (hW : ∀ k d, W (ix2 k d) ≠ ⊤ ∧ W (ix2 k d) ≠ ⊥) (z : EReal) (d : Fin 16) :
    lane z (edgesRow e) (stepTable (table E W)) d = ∑ j : Fin 16, E (ix2 (bucket (fun k => e (ix1 k)) z) j) * W (ix2 d j) := by
  unfold lane
  simp only [edgesRow_at, stepTable_at]
  rw [steps_bucket (fun k => e (ix1 k)) he (fun k => table E W (ix2 k d)) (fun k => by
    simp only [table_at]; exact sum_mul_finite _ _ (fun j => hE k j) fun j => hW d j), table_at]

/-- The reference's row for an entry is the bucket of the normalised entry. -/
theorem slot_eq (e : FVec Ideal S256 .f32) (z : FVec Ideal S200000x26 .f32) (n : Fin 200000) (f : Fin 26) :
    slot (clip (rank e z)) (ix3 n f 0) = BitVec.ofNat 32 (bucket (fun k => e (ix1 k)) (z (ix2 n f))).val :=
  slot_at _ n f _ (clip_at _ n f _ ((Finset.card_le_univ _).trans (by simp)) (rank_at e z n f))

/-- The two results, from the same arguments. -/
theorem result_eq (x : FVec Ideal S200000x26 .f32) (l : FVec Ideal S256 .f32) (E : FVec Ideal S256x16 .f32) (W : FVec Ideal S16x16 .f32)
    (b : FVec Ideal S16 .f32) (hE : ∀ k d, E (ix2 k d) ≠ ⊤ ∧ E (ix2 k d) ≠ ⊥) (hW : ∀ k d, W (ix2 k d) ≠ ⊤ ∧ W (ix2 k d) ≠ ⊥) :
    scores x (fun j => least x (j 1)) (fun j => greatest x (j 1)) (edgesRow (edges l)) (stepTable (table E W)) (biasRow b)
      = layer (looked E (slot (clip (rank (edges l) (normal x))))) W b := by
  funext i
  obtain ⟨n, d, rfl⟩ : ∃ (n : Fin 200000) (d : Fin 16), i = ix2 n d := ⟨i 0, i 1, by
    funext a; match a with | ⟨0, _⟩ => rfl | ⟨1, _⟩ => rfl⟩
  rw [layer_at]
  refine Eq.trans (b := ∑ f : Fin 26, lane ((x (ix2 n f) - least x f) * Ideal.div 1 (greatest x f - least x f + eps))
    (edgesRow (edges l)) (stepTable (table E W)) d + biasRow b (ix2 0 d)) rfl ?_
  rw [biasRow_at, ← sum_bias]
  refine Finset.sum_congr rfl fun f _ => congrArg (· + b (ix1 d)) ?_
  rw [lane_eq _ (edges_mono l) E W hE hW, mul_recip _ _ (width_ne _ _ _ (least_le_greatest x f) eps_pos eps_ne_top), ← normal_at]
  refine Finset.sum_congr rfl fun j _ => ?_
  rw [looked_at E _ n f j _ (slot_eq (edges l) (normal x) n f)]

end Cert.Equal
-- ==== Proof.lean ====
/-
  The claims: each program runs and leaves its arguments and semaphores as they were, and at exact arithmetic the kernel's result is the
  reference's where the embedding table and the weights are finite.
-/
module

public import proofs.«01_k».proof.Defs
public import proofs.«01_k».proof.Proof.Bits.Run
public import proofs.«01_k».proof.Proof.Ideal.Equal
public import Idealize.ShloMosaic.Lib.Quiescent
import Idealize.ShloMosaic.Lib.Claim

@[expose] public section

set_option maxRecDepth 16384

noncomputable section

namespace Cert.Proof

open Idealize.ShloMosaic Idealize.SL.Sem

attribute [local instance] Cert.Pre_finite_tables.facts

/-- The kernel runs to its end and leaves its arguments as they were and every semaphore at zero. -/
theorem kernel : Cert.quiescent_Kernel := fun m g _ =>
  θ_run_mono (Cert.Kernel.Hand.run m g) fun _ h => ⟨fun c => (h.1 c).2, h.2⟩

/-- The same of the kernel over the extended reals. -/
theorem kernelIdeal : Cert.quiescent_KernelIdeal := fun m g _ =>
  θ_run_mono (Cert.KernelIdeal.Hand.run m g) fun _ h => ⟨fun c => (h.1 c).2, h.2⟩

/-- The same of the reference over the extended reals. -/
theorem referenceIdeal : Cert.quiescent_ReferenceIdeal := fun m g _ =>
  θ_run_mono (Cert.ReferenceIdeal.Value.run m g) fun r h => ⟨fun c => (h c).2, sem_eq_zero_of_no_sems (by decide) r.2⟩

/-- From equal arguments with finite tables, the kernel and the reference end with the same result. -/
theorem algebraic : Cert.algebraic_KernelIdeal_ReferenceIdeal_pre_finite_tables := fun m g m' g' hpre hagree =>
  ⟨fun c => Cert.KernelIdeal.Hand.V5' m c (Proc.devRef .tc Cert.KernelIdeal.main_v25),
    θ_run_mono (Cert.KernelIdeal.Hand.run m g) fun _ h => h.1,
    θ_run_mono (Cert.ReferenceIdeal.Value.run m' g') fun _ h c => ⟨(h c).1.trans (by
      refine Eq.trans ?_ (Cert.KernelIdeal.Hand.V5_result m c).symm
      rw [Cert.ReferenceIdeal.Hand.res_eq, (hagree c).1, (hagree c).2.1, (hagree c).2.2.1,
        (hagree c).2.2.2.1, (hagree c).2.2.2.2]
      have hf := Cert.Pre_finite_tables.tables_finite _ _ _ _ _ (hpre c)
      exact (Cert.Equal.result_eq _ _ _ _ _ hf.1 hf.2).symm), (h c).2⟩⟩

/-- All the claims together. -/
theorem claim : Cert.Claim :=
  ⟨Cert.Kernel.Gen.facts, Cert.KernelIdeal.Gen.facts, Cert.ReferenceIdeal.Gen.facts, Cert.Pre_finite_tables.facts,
    kernel, kernelIdeal, fun m g _ => kernelIdeal m g trivial, referenceIdeal, fun m g _ => referenceIdeal m g trivial, trivial, algebraic⟩

end Cert.Proof

end
